-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S256x512 : Shape := ⟨2, ![256, 512]⟩
abbrev S16x512 : Shape := ⟨2, ![16, 512]⟩
abbrev S512x512 : Shape := ⟨2, ![512, 512]⟩
abbrev S31x16x512 : Shape := ⟨3, ![31, 16, 512]⟩
abbrev S31 : Shape := ⟨1, ![31]⟩
abbrev S_ : Shape := ⟨0, ![]⟩
abbrev S512x128 : Shape := ⟨2, ![512, 128]⟩
abbrev S512 : Shape := ⟨1, ![512]⟩
abbrev S1x256x512 : Shape := ⟨3, ![1, 256, 512]⟩
abbrev S1 : Shape := ⟨1, ![1]⟩
abbrev S1x16x512 : Shape := ⟨3, ![1, 16, 512]⟩
abbrev S16x256 : Shape := ⟨2, ![16, 256]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S16x512, .f32⟩
  | .local _ .vmem, ⟨0, _⟩ => ⟨S512x256, .f32⟩
  | .local _ .vmem, ⟨1, _⟩ => ⟨S256x128, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S16x512, .f32⟩
  | .local _ .vmem, ⟨6, _⟩ => ⟨S512x512, .f32⟩
  | .local _ .vmem, ⟨7, _⟩ => ⟨S31x16x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 2 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_42 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v89 : BitVec 32 := Scalar.addi v2 c64_i32
  let c1_i32_41 : BitVec 32 := 1#32
  let v90 : BitVec 32 := Scalar.subi v89 c1_i32_41
  let v91 : BitVec 32 := Scalar.subi v90 c0_i32_42
  let c32_i32_43 : BitVec 32 := 32#32
  let v92 : BitVec 32 := Scalar.remsi v91 c32_i32_43
  let c16_i32 : BitVec 32 := 16#32
  let v93 : BitVec 32 := Scalar.muli v92 c16_i32
  let c0_i32_51 : BitVec 32 := 0#32
  ![v93.toNat, 0]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_47 : BitVec 32 := 1#32
  let v94 : BitVec 32 := Scalar.muli v7 c1_i32_47
  let v95 : BitVec 32 := Scalar.addi c0_i32_48 v94
  v95.toNat
def k0_off2 (d0 : Dev nD) (c0_i32_69 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_67 : BitVec 32 := 64#32
  let v115 : BitVec 32 := Scalar.addi v2 c64_i32_67
  let c2_i32_68 : BitVec 32 := 2#32
  let v116 : BitVec 32 := Scalar.subi v115 c2_i32_68
  let v117 : BitVec 32 := Scalar.subi v116 c0_i32_69
  let c32_i32_70 : BitVec 32 := 32#32
  let v118 : BitVec 32 := Scalar.remsi v117 c32_i32_70
  let c16_i32_71 : BitVec 32 := 16#32
  let v119 : BitVec 32 := Scalar.muli v118 c16_i32_71
  let v120 : Index := Scalar.indexCast v119
  let c0_72 : Index := 0#32
  ![v120.toNat, 0]
def k0_dev4 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_85 : BitVec 32 := 1#32
  let v134 : BitVec 32 := Scalar.muli v7 c1_i32_85
  let v135 : BitVec 32 := Scalar.addi c0_i32_86 v134
  v135.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_123 : BitVec 32 := 1#32
  let v174 : BitVec 32 := Scalar.muli v7 c1_i32_123
  let v175 : BitVec 32 := Scalar.addi c0_i32_124 v174
  v175.toNat
def k0_dev6 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_161 : BitVec 32 := 1#32
  let v214 : BitVec 32 := Scalar.muli v7 c1_i32_161
  let v215 : BitVec 32 := Scalar.addi c0_i32_162 v214
  v215.toNat
def k0_dev7 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_199 : BitVec 32 := 1#32
  let v254 : BitVec 32 := Scalar.muli v7 c1_i32_199
  let v255 : BitVec 32 := Scalar.addi c0_i32_200 v254
  v255.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_235 : BitVec 32 := 1#32
  let v294 : BitVec 32 := Scalar.muli v7 c1_i32_235
  let v295 : BitVec 32 := Scalar.addi c0_i32_236 v294
  v295.toNat
def k0_dev9 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_271 : BitVec 32 := 1#32
  let v334 : BitVec 32 := Scalar.muli v7 c1_i32_271
  let v335 : BitVec 32 := Scalar.addi c0_i32_272 v334
  v335.toNat
def k0_dev10 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_307 : BitVec 32 := 1#32
  let v374 : BitVec 32 := Scalar.muli v7 c1_i32_307
  let v375 : BitVec 32 := Scalar.addi c0_i32_308 v374
  v375.toNat
def k0_dev11 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_343 : BitVec 32 := 1#32
  let v414 : BitVec 32 := Scalar.muli v7 c1_i32_343
  let v415 : BitVec 32 := Scalar.addi c0_i32_344 v414
  v415.toNat
def k0_dev12 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_379 : BitVec 32 := 1#32
  let v454 : BitVec 32 := Scalar.muli v7 c1_i32_379
  let v455 : BitVec 32 := Scalar.addi c0_i32_380 v454
  v455.toNat
def k0_dev13 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_415 : BitVec 32 := 1#32
  let v494 : BitVec 32 := Scalar.muli v7 c1_i32_415
  let v495 : BitVec 32 := Scalar.addi c0_i32_416 v494
  v495.toNat
def k0_dev14 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_451 : BitVec 32 := 1#32
  let v534 : BitVec 32 := Scalar.muli v7 c1_i32_451
  let v535 : BitVec 32 := Scalar.addi c0_i32_452 v534
  v535.toNat
def k0_dev15 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_487 : BitVec 32 := 1#32
  let v574 : BitVec 32 := Scalar.muli v7 c1_i32_487
  let v575 : BitVec 32 := Scalar.addi c0_i32_488 v574
  v575.toNat
def k0_dev16 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_523 : BitVec 32 := 1#32
  let v614 : BitVec 32 := Scalar.muli v7 c1_i32_523
  let v615 : BitVec 32 := Scalar.addi c0_i32_524 v614
  v615.toNat
def k0_dev17 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_559 : BitVec 32 := 1#32
  let v654 : BitVec 32 := Scalar.muli v7 c1_i32_559
  let v655 : BitVec 32 := Scalar.addi c0_i32_560 v654
  v655.toNat
def k0_dev18 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_595 : BitVec 32 := 1#32
  let v694 : BitVec 32 := Scalar.muli v7 c1_i32_595
  let v695 : BitVec 32 := Scalar.addi c0_i32_596 v694
  v695.toNat
def k0_dev19 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_632 : BitVec 32 := 1#32
  let v734 : BitVec 32 := Scalar.muli v7 c1_i32_632
  let v735 : BitVec 32 := Scalar.addi c0_i32_633 v734
  v735.toNat
def k0_dev20 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_668 : BitVec 32 := 1#32
  let v774 : BitVec 32 := Scalar.muli v7 c1_i32_668
  let v775 : BitVec 32 := Scalar.addi c0_i32_669 v774
  v775.toNat
def k0_dev21 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_704 : BitVec 32 := 1#32
  let v814 : BitVec 32 := Scalar.muli v7 c1_i32_704
  let v815 : BitVec 32 := Scalar.addi c0_i32_705 v814
  v815.toNat
def k0_dev22 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_740 : BitVec 32 := 1#32
  let v854 : BitVec 32 := Scalar.muli v7 c1_i32_740
  let v855 : BitVec 32 := Scalar.addi c0_i32_741 v854
  v855.toNat
def k0_dev23 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_776 : BitVec 32 := 1#32
  let v894 : BitVec 32 := Scalar.muli v7 c1_i32_776
  let v895 : BitVec 32 := Scalar.addi c0_i32_777 v894
  v895.toNat
def k0_dev24 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_812 : BitVec 32 := 1#32
  let v934 : BitVec 32 := Scalar.muli v7 c1_i32_812
  let v935 : BitVec 32 := Scalar.addi c0_i32_813 v934
  v935.toNat
def k0_dev25 (d0 : Dev nD) : Nat :=
  let c0_i32_849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_848 : BitVec 32 := 1#32
  let v974 : BitVec 32 := Scalar.muli v7 c1_i32_848
  let v975 : BitVec 32 := Scalar.addi c0_i32_849 v974
  v975.toNat
def k0_dev26 (d0 : Dev nD) : Nat :=
  let c0_i32_885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_884 : BitVec 32 := 1#32
  let v1014 : BitVec 32 := Scalar.muli v7 c1_i32_884
  let v1015 : BitVec 32 := Scalar.addi c0_i32_885 v1014
  v1015.toNat
def k0_dev27 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_920 : BitVec 32 := 1#32
  let v1054 : BitVec 32 := Scalar.muli v7 c1_i32_920
  let v1055 : BitVec 32 := Scalar.addi c0_i32_921 v1054
  v1055.toNat
def k0_dev28 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_956 : BitVec 32 := 1#32
  let v1094 : BitVec 32 := Scalar.muli v7 c1_i32_956
  let v1095 : BitVec 32 := Scalar.addi c0_i32_957 v1094
  v1095.toNat
def k0_dev29 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_992 : BitVec 32 := 1#32
  let v1134 : BitVec 32 := Scalar.muli v7 c1_i32_992
  let v1135 : BitVec 32 := Scalar.addi c0_i32_993 v1134
  v1135.toNat
def k0_dev30 (d0 : Dev nD) : Nat :=
  let c0_i32_1029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1028 : BitVec 32 := 1#32
  let v1174 : BitVec 32 := Scalar.muli v7 c1_i32_1028
  let v1175 : BitVec 32 := Scalar.addi c0_i32_1029 v1174
  v1175.toNat
def k0_dev31 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1064 : BitVec 32 := 1#32
  let v1214 : BitVec 32 := Scalar.muli v7 c1_i32_1064
  let v1215 : BitVec 32 := Scalar.addi c0_i32_1065 v1214
  v1215.toNat
def k0_dev32 (d0 : Dev nD) : Nat :=
  let c0_i32_1101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1100 : BitVec 32 := 1#32
  let v1254 : BitVec 32 := Scalar.muli v7 c1_i32_1100
  let v1255 : BitVec 32 := Scalar.addi c0_i32_1101 v1254
  v1255.toNat
def k0_dev33 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1136 : BitVec 32 := 1#32
  let v1294 : BitVec 32 := Scalar.muli v7 c1_i32_1136
  let v1295 : BitVec 32 := Scalar.addi c0_i32_1137 v1294
  v1295.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1165 : BitVec 32 := 16#32
  let v1329 : BitVec 32 := Scalar.muli v2 c16_i32_1165
  let v1330 : Index := Scalar.indexCast v1329
  let c0_1166 : Index := 0#32
  ![v1330.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1165 : BitVec 32 := 16#32
  let v1329 : BitVec 32 := Scalar.muli v2 c16_i32_1165
  let v1336 : Index := Scalar.indexCast v1329
  let c0_1170 : Index := 0#32
  ![v1336.toNat, 0]
def k0_dev34 (d0 : Dev nD) : Nat :=
  let c0_i32_1175_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1174_r0 : BitVec 32 := 1#32
  let v1341_r0 : BitVec 32 := Scalar.muli v5 c1_i32_1174_r0
  let v1342_r0 : BitVec 32 := Scalar.addi c0_i32_1175_r0 v1341_r0
  v1342_r0.toNat
def k0_dev35 (d0 : Dev nD) : Nat :=
  let c0_i32_1178_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1177_r0 : BitVec 32 := 1#32
  let v1343_r0 : BitVec 32 := Scalar.muli v7 c1_i32_1177_r0
  let v1344_r0 : BitVec 32 := Scalar.addi c0_i32_1178_r0 v1343_r0
  v1344_r0.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S256x512 : Shape := ⟨2, ![256, 512]⟩
abbrev S512x128 : Shape := ⟨2, ![512, 128]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S1x1 : Shape := ⟨2, ![1, 1]⟩
abbrev S512x256x512 : Shape := ⟨3, ![512, 256, 512]⟩

abbrev nBuf : Space → Nat
  | .hbm => 63
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S128x256x512, .f32⟩
  | .hbm, ⟨4, _⟩ => ⟨S256x512, .f32⟩
  | .hbm, ⟨5, _⟩ => ⟨S512x128, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x128, .f32⟩
  | .hbm, ⟨16, _⟩ => ⟨S512x128, .f32⟩
  | .hbm, ⟨17, _⟩ => ⟨S512x512, .f32⟩
  | .hbm, ⟨18, _⟩ => ⟨S512, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S512x1x1, .i32⟩
  | .hbm, ⟨27, _⟩ => ⟨S1, .i32⟩
  | .hbm, ⟨28, _⟩ => ⟨S_, .i32⟩
  | .hbm, ⟨29, _⟩ => ⟨S512x1x1, .i32⟩
  | .hbm, ⟨30, _⟩ => ⟨S512x1x1, .i1⟩
  | .hbm, ⟨31, _⟩ => ⟨S1x1x1, .i32⟩
  | .hbm, ⟨32, _⟩ => ⟨S512x1x1, .i32⟩
  | .hbm, ⟨33, _⟩ => ⟨S512x1x1, .i1⟩
  | .hbm, ⟨34, _⟩ => ⟨S512x1x1, .i1⟩
  | .hbm, ⟨35, _⟩ => ⟨S_, .i1⟩
  | .hbm, ⟨36, _⟩ => ⟨S512x1, .i1⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512, .f32⟩
  | .hbm, ⟨42, _⟩ => ⟨S512x1, .i32⟩
  | .hbm, ⟨43, _⟩ => ⟨S1, .i32⟩
  | .hbm, ⟨44, _⟩ => ⟨S_, .i32⟩
  | .hbm, ⟨45, _⟩ => ⟨S512x1, .i32⟩
  | .hbm, ⟨46, _⟩ => ⟨S512x1, .i1⟩
  | .hbm, ⟨47, _⟩ => ⟨S1x1, .i32⟩
  | .hbm, ⟨48, _⟩ => ⟨S512x1, .i32⟩
  | .hbm, ⟨49, _⟩ => ⟨S512x1, .i1⟩
  | .hbm, ⟨50, _⟩ => ⟨S512x1, .i1⟩
  | .hbm, ⟨51, _⟩ => ⟨S_, .i1⟩
  | .hbm, ⟨52, _⟩ => ⟨S512, .i1⟩
  | .hbm, ⟨53, _⟩ => ⟨S512x256x512, .f32⟩
  | .hbm, ⟨54, _⟩ => ⟨S512x256x512, .i1⟩
  | .hbm, ⟨55, _⟩ => ⟨S_, .f32⟩
  | .hbm, ⟨56, _⟩ => ⟨S512x256x512, .f32⟩
  | .hbm, ⟨57, _⟩ => ⟨S512x256x512, .f32⟩
  | .hbm, ⟨58, _⟩ => ⟨S512x1, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_2 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩

abbrev nD : Nat := 1
abbrev τ : Topo := Topo.v7x

variable {F : FTy → Type} [FloatOps F]
-- ==== Proof.KernelIdeal.Steps.lean ====
/-
# The kernel's body as a head, thirty-one steps and a tail

The body runs a barrier with both ring neighbours, computes this device's contribution into the accumulator,
runs the thirty-one steps of a ring reduce-scatter, writes the result and leaves through a second handshake.
The printed text spells the steps out one by one; here one step is written once, over its number, and the body
is shown to be the head, the steps in order, and the tail.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## Names for the buffers and semaphores -/

/-- The staged operands, the staged result, the accumulator and the receive buffer, as the body is given them. -/
abbrev xM : Memref sig .tc .vmem S512x256 .f32 := Memref.whole cc0_stg0_0
abbrev gM : Memref sig .tc .vmem S256x128 .f32 := Memref.whole cc0_stg1_0
abbrev eM : Memref sig .tc .vmem S512x1 .i32 := Memref.whole cc0_stg2_0
abbrev wM : Memref sig .tc .vmem S4x256x512 .f32 := Memref.whole cc0_stg3_0
abbrev hM : Memref sig .tc .vmem S256x512 .f32 := Memref.whole cc0_stg4_0
abbrev oM : Memref sig .tc .vmem S16x512 .f32 := Memref.whole cc0_stg5_0
abbrev aM : Memref sig .tc .vmem S512x512 .f32 := Memref.whole cc0_scratch0
abbrev rM : Memref sig .tc .vmem S31x16x512 .f32 := Memref.whole cc0_scratch1

theorem sem_inb (s : Fin 31) : ∀ a, (![s.val] : Fin 1 → Nat) a + S1.size a ≤ S31.size a := by
  revert s; decide
theorem slot_inb (s : Fin 31) : ∀ a, (![s.val, 0, 0] : Fin 3 → Nat) a + S1x16x512.size a ≤ S31x16x512.size a := by
  revert s; decide

/-- The barrier semaphore, the exit semaphore, and step `s`'s send and receive semaphores. -/
abbrev barS : Sem sig := (SemArray.scalar (sig.barrier 0 rfl) : Sems sig S_).sem
abbrev exitS : Sem sig := (cc0_scoped0 : Sems sig S_).sem
abbrev sendS (s : Fin 31) : DmaSem sig :=
  (((cc0_scratch2 : DmaSems sig S31).slice (Rect.unit (s := S31) ![s.val] S1.size (sem_inb s))).squeeze S_ squeezes_S1_S_).sem
abbrev recvS (s : Fin 31) : DmaSem sig :=
  (((cc0_scratch3 : DmaSems sig S31).slice (Rect.unit (s := S31) ![s.val] S1.size (sem_inb s))).squeeze S_ squeezes_S1_S_).sem

/-- Slot `s` of the receive buffer: the rectangle a load takes, and the view a copy lands in. -/
abbrev slotR (s : Fin 31) : Rect S31x16x512 := Rect.unit (s := S31x16x512) ![s.val, 0, 0] S1x16x512.size (slot_inb s)
abbrev slot (s : Fin 31) : Memref sig .tc .vmem S16x512 .f32 :=
  (rM.slice (slotR s) (fun _ => rfl)).squeeze S16x512 squeezes_S1x16x512_S16x512

/-- The sixteen rows of the accumulator at the offsets `o`. -/
abbrev rowsR (o : Fin 2 → ℕ) (h : ∀ a, o a + S16x512.size a ≤ S512x512.size a) : Rect S512x512 :=
  Rect.unit (s := S512x512) o S16x512.size h
abbrev rows (o : Fin 2 → ℕ) (h : ∀ a, o a + S16x512.size a ≤ S512x512.size a) : Memref sig .tc .vmem S16x512 .f32 :=
  aM.slice (rowsR o h) (fun _ => rfl)

/-- One device's contribution to the accumulator, from the values loaded: the tokens, the routes, the router's
    weights and its four experts' weights. -/
def contrib (c : Dev nD) (x : Vec F S512x256 .f32) (e : Vec F S512x1 .i32) (g : Vec F S256x128 .f32)
    (w0 w1 w2 w3 : Vec F S1x256x512 .f32) : FVec F S512x512 .f32 :=
  k0_pay10 (Scalar.remsi (Scalar.divsi (Dev.word c) 1#32) 32#32) (k0_pay1 x) (k0_pay2 e)
    (k0_pay7 (k0_pay3 x g) (k0_pay4 x g) (k0_pay5 e) k0_pay6)
    (k0_pay8 (Scalar.remsi (Scalar.divsi (Dev.word c) 1#32) 32#32) (k0_pay1 x) (k0_pay2 e) w0 w1)
    (k0_pay9 (Scalar.remsi (Scalar.divsi (Dev.word c) 1#32) 32#32) (k0_pay1 x) (k0_pay2 e) w2) w3

/-- The result rows from this device's sixteen tokens, the shared expert's weights and the reduced chunk. -/
def result (x : Vec F S16x256 .f32) (w : Vec F S256x512 .f32) (a : Vec F S16x512 .f32) : FVec F S16x512 .f32 :=
  k0_pay47 (k0_pay45 x) (k0_pay46 w) (constant S16x512 .f32 0x00000000#32) a

/-! ## The pieces of the body -/

/-- The entry handshake and the contribution. -/
def head (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semWaitWord barS 2#32
  let x : Vec F S512x256 .f32 ← Prog.lift (.load xM (Rect.unit (s := S512x256) ![0, 0] S512x256.size inb_S512x256_S512x256_0_0).toLoadRect (View.loadsAt_vmem h_S512x256))
  let e : Vec F S512x1 .i32 ← Prog.lift (.load eM (Rect.unit (s := S512x1) ![0, 0] S512x1.size inb_S512x1_S512x1_0_0).toLoadRect (View.loadsAt_vmem h_S512x1))
  let g : Vec F S256x128 .f32 ← Prog.lift (.load gM (Rect.unit (s := S256x128) ![0, 0] S256x128.size inb_S256x128_S256x128_0_0).toLoadRect (View.loadsAt_vmem h_S256x128))
  let w0 : Vec F S1x256x512 .f32 ← Prog.lift (.load wM (Rect.unit (s := S4x256x512) ![0, 0, 0] S1x256x512.size inb_S4x256x512_S1x256x512_0_0_0).toLoadRect (View.loadsAt_vmem h_S1x256x512))
  let w1 : Vec F S1x256x512 .f32 ← Prog.lift (.load wM (Rect.unit (s := S4x256x512) ![1, 0, 0] S1x256x512.size inb_S4x256x512_S1x256x512_1_0_0).toLoadRect (View.loadsAt_vmem h_S1x256x512))
  let w2 : Vec F S1x256x512 .f32 ← Prog.lift (.load wM (Rect.unit (s := S4x256x512) ![2, 0, 0] S1x256x512.size inb_S4x256x512_S1x256x512_2_0_0).toLoadRect (View.loadsAt_vmem h_S1x256x512))
  let w3 : Vec F S1x256x512 .f32 ← Prog.lift (.load wM (Rect.unit (s := S4x256x512) ![3, 0, 0] S1x256x512.size inb_S4x256x512_S1x256x512_3_0_0).toLoadRect (View.loadsAt_vmem h_S1x256x512))
  let _ : Vec F S512x512 .f32 ← Prog.lift (.load aM (Rect.unit (s := S512x512) ![0, 0] S512x512.size inb_S512x512_S512x512_0_0).toLoadRect (View.loadsAt_vmem h_S512x512))
  Prog.lift (.store aM (Rect.unit (s := S512x512) ![0, 0] S512x512.size inb_S512x512_S512x512_0_0) (contrib c x e g w0 w1 w2 w3) Finset.univ (View.stores_vmem_bits_univ h_S512x512 rfl) (.inl rfl))

/-- One step to the device `n`: copy the rows at `o₁` into `n`'s slot `s`, wait for the copy to have been read and
    for the previous device's to have landed in this device's slot `s`, and add the slot into the rows at `o₂`. -/
def stepAt (n : Dev nD) (s : Fin 31) (o₁ o₂ : Fin 2 → ℕ) (h₁ : ∀ a, o₁ a + S16x512.size a ≤ S512x512.size a)
    (h₂ : ∀ a, o₂ a + S16x512.size a ≤ S512x512.size a) : Prog (TpuEff nD τ sig (Elt F) Λ₀ .tc) PUnit := do
  Prog.lift (.enqueueDma (rows o₁ h₁) (.remote (Dev.tc n) (slot s) (.dma (sendS s))) (.dma (recvS s)) (View.wordExact_bits rfl) ((View.wordExact_bits rfl).reshape _ _) ⟨⟨rfl, Or.inl rfl⟩, trivial⟩)
  Prog.lift (.waitDma2 (sendS s) (slot s) (rows o₁ h₁) ((View.wordExact_bits rfl).reshape _ _) (View.wordExact_bits rfl))
  Prog.lift (.waitDma2 (recvS s) (rows o₁ h₁) (slot s) (View.wordExact_bits rfl) ((View.wordExact_bits rfl).reshape _ _))
  let a : Vec F S16x512 .f32 ← Prog.lift (.load aM (rowsR o₂ h₂).toLoadRect (View.loadsAt_vmem h_S16x512))
  let r : Vec F S1x16x512 .f32 ← Prog.lift (.load rM (slotR s).toLoadRect (View.loadsAt_vmem h_S1x16x512))
  let _ : Vec F S16x512 .f32 ← Prog.lift (.load aM (rowsR o₂ h₂).toLoadRect (View.loadsAt_vmem h_S16x512))
  Prog.lift (.store aM (rowsR o₂ h₂) (k0_pay11 a r) Finset.univ (View.stores_vmem_bits_univ h_S16x512 rfl) (.inl rfl))

/-- Step `s` as the body has it. -/
def step (c : Dev nD) (s : Fin 31) : Prog (TpuEff nD τ sig (Elt F) Λ₀ .tc) PUnit :=
  stepAt ⟨k0_dev3 c, k0_dev3_lt c⟩ s (k0_off1 c (BitVec.ofNat 32 s.val)) (k0_off2 c (BitVec.ofNat 32 s.val)) (k0_off1_inb c s) (k0_off2_inb c s)

/-- The `k` steps that end with the last, the first of them step `s`, then `rest`. -/
def steps (c : Dev nD) (rest : Prog (TpuEff nD τ sig (Elt F) Λ₀ .tc) PUnit) :
    (k s : ℕ) → s + k = 31 → Prog (TpuEff nD τ sig (Elt F) Λ₀ .tc) PUnit
  | 0, _, _ => rest
  | k + 1, s, h => (step c ⟨s, by omega⟩).bind fun _ => steps c rest k (s + 1) (by omega)

/-- The result written, and the exit handshake. -/
def tail (c : Dev nD) : Prog (TpuEff nD τ sig (Elt F) Λ₀ .tc) PUnit := do
  let x : Vec F S16x256 .f32 ← Prog.lift (.load xM (Rect.unit (s := S512x256) (k0_off3 c) S16x256.size (k0_off3_inb c)).toLoadRect (View.loadsAt_vmem h_S16x256))
  let w : Vec F S256x512 .f32 ← Prog.lift (.load hM (Rect.unit (s := S256x512) ![0, 0] S256x512.size inb_S256x512_S256x512_0_0).toLoadRect (View.loadsAt_vmem h_S256x512))
  let a : Vec F S16x512 .f32 ← Prog.lift (.load aM (rowsR (k0_off4 c) (k0_off4_inb c)).toLoadRect (View.loadsAt_vmem h_S16x512))
  let _ : Vec F S16x512 .f32 ← Prog.lift (.load oM (Rect.unit (s := S16x512) ![0, 0] S16x512.size inb_S16x512_S16x512_0_0).toLoadRect (View.loadsAt_vmem h_S16x512))
  Prog.lift (.store oM (Rect.unit (s := S16x512) ![0, 0] S16x512.size inb_S16x512_S16x512_0_0) (result x w a) Finset.univ (View.stores_vmem_bits_univ h_S16x512 rfl) (.inl rfl))
  semSignalWord (⟨k0_dev34 c, k0_dev34_lt c⟩ : Dev nD) exitS 1#32
  semSignalWord (⟨k0_dev35 c, k0_dev35_lt c⟩ : Dev nD) exitS 1#32
  semWaitWord exitS 2#32

/-- The body on the launch's buffers. -/
abbrev body : Prog (TpuEff nD τ sig (Elt F) Λ₀ .tc) PUnit :=
  cc0_body xM (Memref.isWhole_whole _) gM (Memref.isWhole_whole _) eM (Memref.isWhole_whole _) wM (Memref.isWhole_whole _)
    hM (Memref.isWhole_whole _) oM (Memref.isWhole_whole _) aM (Memref.isWhole_whole _) rM (Memref.isWhole_whole _)
    cc0_scratch2 cc0_scratch3 cc0_scoped0

/-- The body reads its device id and runs the head, the thirty-one steps and the tail. -/
theorem body_eq : (body (F := F)) = .op .deviceId fun c => (head c).bind fun _ => steps c (tail c) 31 0 rfl := by
  chain_rfl

end Cert.KernelIdeal.Ring

end
-- ==== Proof.KernelIdeal.Contents.lean ====
/-
# What every buffer holds, step by step

The contents of the accumulator of every device after every number of steps, and of the result, as functions of
the memory at launch, for any float values.
-/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## The ring -/

/-- The next device around the ring, and the one before. -/
def nxt (c : Dev nD) : Dev nD := ⟨(c.val + 1) % 32, Nat.mod_lt _ (by decide)⟩
def prv (c : Dev nD) : Dev nD := ⟨(c.val + 31) % 32, Nat.mod_lt _ (by decide)⟩

theorem prv_nxt (c : Dev nD) : prv (nxt c) = c := by
  have h : c.val < 32 := c.isLt
  apply Fin.ext; simp only [prv, nxt]; omega
theorem nxt_prv (c : Dev nD) : nxt (prv c) = c := by
  have h : c.val < 32 := c.isLt
  apply Fin.ext; simp only [prv, nxt]; omega
theorem nxt_ne_prv (c : Dev nD) : nxt c ≠ prv c := by
  intro h
  have hc : c.val < 32 := c.isLt
  have := congrArg Fin.val h; simp only [prv, nxt] at this; omega

/-- The ring as a permutation of the devices. -/
def ring : Dev nD ≃ Dev nD := ⟨nxt, prv, prv_nxt, nxt_prv⟩

/-! ## Chunks of the accumulator -/

/-- The chunk of rows that device `c` sends at step `n`, and the one it adds the arrival into. -/
def sendNo (c : Dev nD) (n : ℕ) : ℕ := (c.val + 63 - n) % 32
def addNo (c : Dev nD) (n : ℕ) : ℕ := (c.val + 62 - n) % 32

theorem chunk_inb {k : ℕ} (h : k < 32) : ∀ a, (![16 * k, 0] : Fin 2 → ℕ) a + S16x512.size a ≤ S512x512.size a
  | ⟨0, _⟩ => by show 16 * k + 16 ≤ 512; omega
  | ⟨1, _⟩ => by show 0 + 512 ≤ 512; omega

theorem sendNo_lt (c : Dev nD) (n : ℕ) : sendNo c n < 32 := Nat.mod_lt _ (by decide)
theorem addNo_lt (c : Dev nD) (n : ℕ) : addNo c n < 32 := Nat.mod_lt _ (by decide)

/-- The chunk that arrives at step `n` is the one the device before sends at that step. -/
theorem sendNo_prv (c : Dev nD) {n : ℕ} (hn : n < 31) : sendNo (prv c) n = addNo c n := by
  have h : c.val < 32 := c.isLt
  simp only [sendNo, addNo, prv]; omega

/-- Chunk `k` of the accumulator, as a rectangle and as a view. -/
abbrev chunkR (k : ℕ) (h : k < 32) : Rect S512x512 := rowsR ![16 * k, 0] (chunk_inb h)
abbrev chunk (k : ℕ) (h : k < 32) : Memref sig .tc .vmem S16x512 .f32 := rows ![16 * k, 0] (chunk_inb h)

/-- A step with its device and its rows in closed form. -/
theorem step_eq (c : Dev nD) (s : Fin 31) :
    step (F := F) c s = stepAt (nxt c) s ![16 * sendNo c s.val, 0] ![16 * addNo c s.val, 0]
      (chunk_inb (sendNo_lt c s.val)) (chunk_inb (addNo_lt c s.val)) := by
  have h1 : k0_off1 c (BitVec.ofNat 32 s.val) = ![16 * sendNo c s.val, 0] := k0_off1_eq c s
  have h2 : k0_off2 c (BitVec.ofNat 32 s.val) = ![16 * addNo c s.val, 0] := k0_off2_eq c s
  have h3 : (⟨k0_dev3 c, k0_dev3_lt c⟩ : Dev nD) = nxt c := Fin.ext (k0_dev3_eq c)
  have key : ∀ (n n' : Dev nD) (o₁ o₁' o₂ o₂' : Fin 2 → ℕ) (e₀ : n = n') (e₁ : o₁ = o₁') (e₂ : o₂ = o₂') (p₁) (p₁') (p₂) (p₂'),
      stepAt (F := F) n s o₁ o₂ p₁ p₂ = stepAt n' s o₁' o₂' p₁' p₂' := by
    rintro n _ o₁ _ o₂ _ rfl rfl rfl _ _ _ _; rfl
  exact key _ _ _ _ _ _ h3 h1 h2 _ _ _ _

/-! ## Contents -/

variable (m : (ℓ : Loc nD τ sig) → Buf (Elt F) ℓ)

/-- The operands as staged on device `c`: tokens, router weights, routes, its experts' weights, the shared expert's. -/
def xOf (c : Dev nD) : (cc0_stg0_0 : Ref sig .tc).ty.Contents (Elt F) := (win0_0.blk (0 : Fin 1)).view.read (Elt F) (m ((c : Thread nD τ).loc main_arg0))
def gOf (c : Dev nD) : (cc0_stg1_0 : Ref sig .tc).ty.Contents (Elt F) := (win0_1.blk (0 : Fin 1)).view.read (Elt F) (m ((c : Thread nD τ).loc main_arg1))
def eOf (c : Dev nD) : (cc0_stg2_0 : Ref sig .tc).ty.Contents (Elt F) := (win0_2.blk (0 : Fin 1)).view.read (Elt F) (m ((c : Thread nD τ).loc main_arg2))
def wOf (c : Dev nD) : (cc0_stg3_0 : Ref sig .tc).ty.Contents (Elt F) := (win0_3.blk (0 : Fin 1)).view.read (Elt F) (m ((c : Thread nD τ).loc main_arg3))
def hOf (c : Dev nD) : (cc0_stg4_0 : Ref sig .tc).ty.Contents (Elt F) := (win0_4.blk (0 : Fin 1)).view.read (Elt F) (m ((c : Thread nD τ).loc main_arg4))

/-- Expert `k` of the device's four, as loaded. -/
abbrev expR (k : Fin 4) : Rect S4x256x512 :=
  Rect.unit (s := S4x256x512) ![k.val, 0, 0] S1x256x512.size (by revert k; decide)
def expOf (c : Dev nD) (k : Fin 4) : Vec F S1x256x512 .f32 := wM.view.readAt (Elt F) (expR k).toLoadRect (wOf m c)

/-- Device `c`'s contribution: what its accumulator holds before the first step. -/
def acc0 (c : Dev nD) : (cc0_scratch0 : Ref sig .tc).ty.Contents (Elt F) :=
  contrib c (xOf m c) (eOf m c) (gOf m c) (expOf m c 0) (expOf m c 1) (expOf m c 2) (expOf m c 3)

/-- The chunk with the arrived one added. -/
def addRows (a r : Vec F S16x512 .f32) : FVec F S16x512 .f32 := shapeCast S16x512 (addf a r) shapeCasts_S16x512_S16x512

/-- Device `c`'s accumulator after `n` steps: at each, the chunk the device before sends is added into the same chunk. -/
def accAt : ℕ → Dev nD → (cc0_scratch0 : Ref sig .tc).ty.Contents (Elt F)
  | 0, c => acc0 m c
  | n + 1, c => (aM.access (chunkR (addNo c n) (addNo_lt c n)) : View sig .tc _ _ _).write (Elt F) (accAt n c)
      (addRows (aM.view.readAt (Elt F) (chunkR (addNo c n) (addNo_lt c n)).toLoadRect (accAt n c))
        ((chunk (sendNo (prv c) n) (sendNo_lt _ _)).view.read (Elt F) (accAt n (prv c)))) Finset.univ

/-- What device `c` sends at step `n`. -/
def sent (c : Dev nD) (n : ℕ) : Vec F S16x512 .f32 := (chunk (sendNo c n) (sendNo_lt c n)).view.read (Elt F) (accAt m n c)

theorem accAt_succ (n : ℕ) (c : Dev nD) :
    accAt m (n + 1) c = (aM.access (chunkR (addNo c n) (addNo_lt c n)) : View sig .tc _ _ _).write (Elt F) (accAt m n c)
      (addRows (aM.view.readAt (Elt F) (chunkR (addNo c n) (addNo_lt c n)).toLoadRect (accAt m n c)) (sent m (prv c) n)) Finset.univ := rfl

/-- Device `c`'s result. -/
def outAt (c : Dev nD) : (cc0_stg5_0 : Ref sig .tc).ty.Contents (Elt F) :=
  result (xM.view.readAt (Elt F) (Rect.unit (s := S512x256) (k0_off3 c) S16x256.size (k0_off3_inb c)).toLoadRect (xOf m c)) (hOf m c)
    (aM.view.readAt (Elt F) (rowsR (k0_off4 c) (k0_off4_inb c)).toLoadRect (accAt m 31 c))

/-! ## Reading a slot -/

/-- What a step stores, from the slot as loaded. -/
theorem pay_eq (a : Vec F S16x512 .f32) (s : Fin 31) (f : (cc0_scratch1 : Ref sig .tc).ty.Contents (Elt F)) :
    k0_pay11 a ((rM.access (slotR s) : View sig .tc _ _ _).read (Elt F) f) = addRows a ((slot s).view.read (Elt F) f) := rfl

/-- The transfer's count, the same for the two views of it. -/
abbrev N : ℕ := (slot 0).view.dmaCredit
theorem N_pos : 0 < N := View.dmaCredit_pos _ (by decide)
theorem credit_slot (s : Fin 31) : (slot s).view.dmaCredit = N := rfl
theorem credit_chunk (k : ℕ) (h : k < 32) : (chunk k h).view.dmaCredit = N := rfl

/-! ## The slots tile the receive buffer -/

theorem slot_set (s : Fin 31) : (slot s).view.set = (slotR s).set := by
  show (((View.whole cc0_scratch1).slice (slotR s)).reshape S16x512 _).set = _
  rw [View.set_reshape, View.set_slice_whole]

end Cert.KernelIdeal.Ring

end
-- ==== Proof.KernelIdeal.Schedule.lean ====
/-
# The schedule of the ring's semaphores

Each device has one barrier cell, one exit cell and, per step, a send and a receive cell. Every cell has a single
round. The barrier and exit cells are signalled by both neighbours. The barrier's signal from the next device hands
over the next device's receive slots; a send cell hands the sent rows back; a receive cell hands over this device's
slot with the rows of the device before in it.
-/
module

public import proofs.«01_k».proof.Proof.KernelIdeal.Contents
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The ring's semaphores: the barrier (`inl false`), the exit (`inl true`), the send (`inr (false, s)`) and the
    receive (`inr (true, s)`) of each step. -/
abbrev CI : Type := Bool ⊕ (Bool × Fin 31)

def csem : CI → SemLoc sig
  | .inl false => .reg barS
  | .inl true => .reg exitS
  | .inr (false, s) => .dma (sendS s)
  | .inr (true, s) => .dma (recvS s)

theorem sendS_val : ∀ s : Fin 31, (sendS s).val = 6 + s.val := by decide
theorem recvS_val : ∀ s : Fin 31, (recvS s).val = 37 + s.val := by decide

theorem csem_inj : Function.Injective csem := by
  have hb : (barS : Sem sig) ≠ exitS := by decide
  intro a b h
  rcases a with (a | ⟨a, s⟩) <;> rcases b with (b | ⟨b, r⟩) <;> cases a <;> cases b <;> simp only [csem] at h
  all_goals first
    | rfl
    | exact absurd (SemLoc.reg.inj h) hb
    | exact absurd (SemLoc.reg.inj h).symm hb
    | (cases h; done)
    | (have h' := congrArg Fin.val (SemLoc.dma.inj h)
       have := s.isLt; have := r.isLt
       simp only [sendS_val, recvS_val] at h'
       first
         | (exfalso; omega)
         | (have : s = r := Fin.ext (by omega)
            rw [this]))

open Classical in
/-- Which of the ring's semaphores a semaphore is, if any. -/
def ofCell (q : SemLoc sig) : Option CI := if h : ∃ k, csem k = q then some h.choose else none

theorem ofCell_csem (k : CI) : ofCell (csem k) = some k := by
  have h : ∃ k', csem k' = csem k := ⟨k, rfl⟩
  unfold ofCell; rw [dif_pos h]; exact congrArg some (csem_inj h.choose_spec)
theorem ofCell_some {q : SemLoc sig} {k : CI} (h : ofCell q = some k) : csem k = q := by
  unfold ofCell at h
  split at h
  · rename_i h'; rw [← Option.some.inj h]; exact h'.choose_spec
  · exact absurd h (by simp)

/-- Device `c`'s cell `k`. -/
abbrev kcell (ck : Dev nD × CI) : GSem nD τ sig := ((ck.1 : Thread nD τ), csem ck.2)
abbrev barCell (c : Dev nD) : GSem nD τ sig := kcell (c, .inl false)
abbrev exitCell (c : Dev nD) : GSem nD τ sig := kcell (c, .inl true)
abbrev sendCell (c : Dev nD) (s : Fin 31) : GSem nD τ sig := kcell (c, .inr (false, s))
abbrev recvCell (c : Dev nD) (s : Fin 31) : GSem nD τ sig := kcell (c, .inr (true, s))

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

/-! ## Payloads -/

/-- Slot `s` of device `c`'s receive buffer, and chunk `k` of its accumulator, with their contents. -/
def slotPts (c : Dev nD) (s : Fin 31) (f : Buf (Elt F) ((slot s).view.loc (c : Thread nD τ))) : sProp 𝕄 :=
  (slot s).view.loc (c : Thread nD τ) ↦[(slot s).view.set]{fullShare} f
def chunkPts (c : Dev nD) (k : ℕ) (h : k < 32) (f : Buf (Elt F) ((chunk k h).view.loc (c : Thread nD τ))) : sProp 𝕄 :=
  (chunk k h).view.loc (c : Thread nD τ) ↦[(chunk k h).view.set]{fullShare} f

instance slotPts_storable (c : Dev nD) (s) (f) : BI.Storable (upEmb : UEmb _ 𝕄) (slotPts (F := F) c s f) := by unfold slotPts; infer_instance
instance chunkPts_storable (c : Dev nD) (k h f) : BI.Storable (upEmb : UEmb _ 𝕄) (chunkPts (F := F) c k h f) := by unfold chunkPts; infer_instance

/-- What the next device's barrier signal hands over: the next device's slots. -/
def barPay (c : Dev nD) : sProp 𝕄 := bigSep Finset.univ fun s : Fin 31 => iprop(∃ f, slotPts (nxt c) s f)
/-- What a send cell hands back: the chunk sent, as it was. -/
def sendPay (c : Dev nD) (s : Fin 31) : sProp 𝕄 := chunkPts c (sendNo c s.val) (sendNo_lt _ _) (accAt m s.val c)
/-- What a receive cell hands over: the slot, reading what the device before sent. -/
def recvPay (c : Dev nD) (s : Fin 31) : sProp 𝕄 := iprop(∃ f, ⌜(slot s).view.read (Elt F) f = sent m (prv c) s.val⌝ ∗ slotPts c s f)

/-- The duties of a cell's one round, their amounts and their payloads. -/
def dutyOf : Option CI → Finset Bool
  | some (.inl _) => Finset.univ
  | some (.inr _) => {false}
  | none => ∅
def amtOf : Option CI → ℕ
  | some (.inr _) => N
  | _ => 1
def payOf (c : Dev nD) : Option CI → Bool → sProp 𝕄
  | some (.inl false), true => barPay c
  | some (.inr (false, s)), _ => sendPay m c s
  | some (.inr (true, s)), _ => recvPay m c s
  | _, _ => iprop(emp)

theorem amtOf_pos (k : Option CI) : 0 < amtOf k := by
  unfold amtOf; split
  · exact N_pos
  · exact Nat.one_pos

instance payOf_storable (c : Dev nD) (k : Option CI) (d : Bool) : BI.Storable (upEmb : UEmb _ 𝕄) (payOf m c k d) := by
  unfold payOf barPay sendPay recvPay
  split <;> infer_instance

/-- The schedule. -/
def ringRd : Rounds.Schedule (GSem nD τ sig) Bool 𝕄 where
  duties g r := if r = 0 ∧ g.1.2 = .tc then dutyOf (ofCell g.2) else ∅
  unitless _ := False
  amount g _ _ := amtOf (ofCell g.2)
  payload g _ d := payOf m g.1.1 (ofCell g.2) d
  amount_pos g _ _ _ := amtOf_pos _

instance ringRd_payload_storable (g : GSem nD τ sig) (r : ℕ) (d : Bool) :
    BI.Storable (upEmb : UEmb _ 𝕄) ((ringRd (F := F) m).payload g r d) := by
  show BI.Storable upEmb (payOf m g.1.1 (ofCell g.2) d); infer_instance

theorem duties_at (c : Dev nD) (k : CI) : (ringRd (F := F) m).duties (kcell (c, k)) 0 = dutyOf (some k) := by
  dsimp only [ringRd]; rw [if_pos ⟨rfl, rfl⟩, ofCell_csem]
theorem duties_later (g : GSem nD τ sig) : ∀ r, 1 ≤ r → (ringRd (F := F) m).duties g r = ∅ :=
  fun r hr => if_neg fun h => by omega
theorem amount_at (c : Dev nD) (k : CI) (d : Bool) : (ringRd (F := F) m).amount (kcell (c, k)) 0 d = amtOf (some k) := by
  show amtOf (ofCell (csem k)) = _; rw [ofCell_csem]
theorem payload_at (c : Dev nD) (k : CI) (d : Bool) : (ringRd (F := F) m).payload (kcell (c, k)) 0 d = payOf m c (some k) d := by
  show payOf m c (ofCell (csem k)) d = _; rw [ofCell_csem]

theorem expect_sig (c : Dev nD) (b : Bool) : (ringRd (F := F) m).expect (kcell (c, .inl b)) 0 = 2 := by
  unfold Schedule.expect Schedule.amountOf
  rw [duties_at, Finset.sum_congr rfl fun d _ => amount_at m c (.inl b) d]; rfl
theorem expect_dma (c : Dev nD) (b : Bool) (s : Fin 31) : (ringRd (F := F) m).expect (kcell (c, .inr (b, s))) 0 = N := by
  unfold Schedule.expect Schedule.amountOf
  rw [duties_at]; show ∑ d ∈ {false}, _ = _
  rw [Finset.sum_singleton, amount_at]; rfl

theorem rest_sig (c : Dev nD) (b : Bool) :
    bigSep ((ringRd (F := F) m).duties (kcell (c, .inl b)) 0 \ ∅) (fun d => (ringRd (F := F) m).payload (kcell (c, .inl b)) 0 d)
      = iprop(payOf m c (some (.inl b)) false ∗ payOf m c (some (.inl b)) true) := by
  rw [Finset.sdiff_empty, duties_at]
  show bigSep Finset.univ _ = _
  rw [bigSep_univ_eq_bigSepL [false, true] (by decide) (by decide), bigSepL_cons_cons, bigSepL_singleton, payload_at, payload_at]
  rfl
theorem rest_dma (c : Dev nD) (b : Bool) (s : Fin 31) :
    bigSep ((ringRd (F := F) m).duties (kcell (c, .inr (b, s))) 0 \ ∅) (fun d => (ringRd (F := F) m).payload (kcell (c, .inr (b, s))) 0 d)
      = payOf m c (some (.inr (b, s))) false := by
  rw [Finset.sdiff_empty, duties_at]
  show bigSep {false} _ = _
  rw [bigSep_singleton, payload_at]

/-! ## What a device owes, and the levels -/

/-- Owed at the exit: a unit to each neighbour's exit cell. -/
def Oex (c : Dev nD) : CellTallies nD τ sig Unit := tallyAt (exitCell (nxt c)) () 1 + tallyAt (exitCell (prv c)) () 1
/-- Owed before step `n`: that, and the transfers of the steps from `n` on. -/
def Ofrom (c : Dev nD) (n : ℕ) : CellTallies nD τ sig Unit :=
  Oex c + ∑ s ∈ Finset.univ.filter (fun s : Fin 31 => n ≤ s.val), tallyAt (recvCell (nxt c) s) () N
/-- Owed at launch: that before step 0, and a unit to each neighbour's barrier cell. -/
def O₁ (c : Dev nD) : CellTallies nD τ sig Unit := Ofrom c 0 + tallyAt (barCell (nxt c)) () 1
def O₀ (c : Dev nD) : CellTallies nD τ sig Unit := O₁ c + tallyAt (barCell (prv c)) () 1

/-- The steps from `n` on, the first one apart. -/
theorem filter_succ {n : ℕ} (hn : n < 31) :
    (Finset.univ.filter fun s : Fin 31 => n ≤ s.val) = insert ⟨n, hn⟩ (Finset.univ.filter fun s : Fin 31 => n + 1 ≤ s.val) := by
  ext s; simp only [Finset.mem_filter, Finset.mem_univ, true_and, Finset.mem_insert, Fin.ext_iff]; omega
theorem notMem_filter_succ {n : ℕ} (hn : n < 31) : (⟨n, hn⟩ : Fin 31) ∉ Finset.univ.filter fun s : Fin 31 => n + 1 ≤ s.val := by
  simp only [Finset.mem_filter, Finset.mem_univ, true_and]; omega
theorem filter_end : (Finset.univ.filter fun s : Fin 31 => 31 ≤ s.val) = ∅ := by decide
theorem filter_all : (Finset.univ.filter fun s : Fin 31 => 0 ≤ s.val) = Finset.univ := by decide

theorem Ofrom_succ (c : Dev nD) {n : ℕ} (hn : n < 31) :
    Ofrom c n = Ofrom c (n + 1) + tallyAt (recvCell (nxt c) ⟨n, hn⟩) () N := by
  unfold Ofrom; rw [filter_succ hn, Finset.sum_insert (notMem_filter_succ hn), add_assoc, add_comm (tallyAt _ _ _)]
theorem Ofrom_end (c : Dev nD) : Ofrom c 31 = Oex c := by
  unfold Ofrom; rw [filter_end, Finset.sum_empty, add_zero]

def L (g : GSem nD τ sig) : Finset Unit := if g.1.2 = .tc then {()} else ∅
/-- The levels: staging and send cells lowest, the barrier, the receive cells in the order of the steps, the exit. -/
def lvOf : Option CI → ℕ
  | some (.inl false) => 1
  | some (.inl true) => 40
  | some (.inr (true, s)) => 2 + s.val
  | _ => 0
def lv (g : GSem nD τ sig) (_ : Unit) : ℕ := lvOf (ofCell g.2)

theorem L_of_ne (g : GSem nD τ sig) (h : g.1.2 ≠ .tc) : L g = ∅ := if_neg h
theorem L_tc (c : Dev nD) (q : SemLoc sig) : L ((c : Thread nD τ), q) = {()} := if_pos rfl
theorem lv_at (c : Dev nD) (k : CI) (u : Unit) : lv (kcell (c, k)) u = lvOf (some k) := by
  show lvOf (ofCell (csem k)) = _; rw [ofCell_csem]

/-- Whatever is owed before step `n` is owed to an exit cell or to a receive cell of a step from `n` on. -/
theorem Ofrom_pos {c : Dev nD} {n : ℕ} {g : GSem nD τ sig} {u : Unit} (h : 0 < Ofrom c n g u) :
    (∃ d, g = exitCell d) ∨ ∃ d s, n ≤ s.val ∧ g = recvCell d s := by
  unfold Ofrom Oex at h
  rw [Pi.add_apply, Finsupp.add_apply, Pi.add_apply, Finsupp.add_apply] at h
  rcases Nat.eq_zero_or_pos (tallyAt (exitCell (nxt c)) () 1 g u) with h1 | h1
  · rcases Nat.eq_zero_or_pos (tallyAt (exitCell (prv c)) () 1 g u) with h2 | h2
    · rw [h1, h2, Nat.zero_add, Finset.sum_apply, Finsupp.finsetSum_apply] at h
      obtain ⟨s, hs, hp⟩ := Finset.exists_ne_zero_of_sum_ne_zero h.ne'
      exact .inr ⟨_, s, (Finset.mem_filter.mp hs).2, (Pipeline.tallyAt_pos (Nat.pos_of_ne_zero hp)).1⟩
    · exact .inl ⟨_, (Pipeline.tallyAt_pos h2).1⟩
  · exact .inl ⟨_, (Pipeline.tallyAt_pos h1).1⟩

theorem O₀_def (c : Dev nD) (g : GSem nD τ sig) (u : Unit) :
    O₀ c g u = Ofrom c 0 g u + tallyAt (barCell (nxt c)) () 1 g u + tallyAt (barCell (prv c)) () 1 g u := rfl

theorem O₀_pos {c : Dev nD} {g : GSem nD τ sig} {u : Unit} (h : 0 < O₀ c g u) : ∃ d k, g = kcell (d, k) ∧ 1 ≤ lvOf (some k) := by
  rw [O₀_def] at h
  rcases Nat.eq_zero_or_pos (tallyAt (barCell (nxt c)) () 1 g u) with h1 | h1
  · rcases Nat.eq_zero_or_pos (tallyAt (barCell (prv c)) () 1 g u) with h2 | h2
    · rw [h1, h2] at h
      rcases Ofrom_pos (by omega : 0 < Ofrom c 0 g u) with ⟨d, hd⟩ | ⟨d, s, -, hd⟩
      · exact ⟨d, .inl true, hd, by show 1 ≤ 40; omega⟩
      · exact ⟨d, .inr (true, s), hd, by show 1 ≤ 2 + s.val; omega⟩
    · exact ⟨prv c, .inl false, (Pipeline.tallyAt_pos h2).1, by show 1 ≤ 1; omega⟩
  · exact ⟨nxt c, .inl false, (Pipeline.tallyAt_pos h1).1, by show 1 ≤ 1; omega⟩

/-- A wait at the lowest level may be made whatever of the launch's debts is owed. -/
theorem mayWait_stage (c : Dev nD) (q : DmaSem sig) (hq : lvOf (ofCell (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; exact Finset.mem_singleton_self _)
      (fun p hp => by rw [Finset.mem_singleton.mp hp]; exact hq.le)
      (fun g u hg => by obtain ⟨d, k, rfl, hk⟩ := O₀_pos hg; rw [lv_at]; exact hk)
  · rw [MayWait_zero]; iintro -; iempintro

/-- Before step `n`, a cell below the receive cells of the steps from `n` on, and below the exits, may be waited on. -/
theorem mayWait_from (c : Dev nD) (n : ℕ) (k : CI) (hn : n ≤ 31) (hk : lvOf (some k) < 2 + n) :
    (levAts L lv : sProp 𝕄) ⊢ MayWait (c : Thread nD τ) (csem k) () (Ofrom c n) :=
  MayOwe.of_cut (L := L) (lev := lv) (1 + n) (fun p hp => by rw [Finset.mem_singleton.mp hp, L_tc]; exact Finset.mem_singleton_self _)
    (fun g u hg => by
      rcases Ofrom_pos hg with ⟨d, rfl⟩ | ⟨d, s, -, rfl⟩ <;> exact Finset.mem_singleton_self _)
    (fun p hp => by rw [Finset.mem_singleton.mp hp]; show lv (kcell (c, k)) _ ≤ _; rw [lv_at]; omega)
    (fun g u hg => by
      rcases Ofrom_pos hg with ⟨d, rfl⟩ | ⟨d, s, hs, rfl⟩
      · rw [lv_at]; show 1 + n < 40; omega
      · rw [lv_at]; show 1 + n < 2 + s.val; omega)

end Cert.KernelIdeal.Ring

end
-- ==== Proof.KernelIdeal.Step.lean ====
/-
# One step, and the thirty-one in order

A step takes the accumulator from what it holds after `n` steps to what it holds after `n + 1`, spends the step's
tokens and closes the step's two cells.
-/
module

public import proofs.«01_k».proof.Proof.KernelIdeal.Schedule

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- What every device may use throughout: the cells' invariants, allocated at the names `K`, and that every cell has
    reached its round. -/
def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

instance records_persistent (K : Dev nD × CI → ℕ) : BI.Persistent (records m K) := by unfold records; infer_instance

theorem inv_elim (K : Dev nD × CI → ℕ) (ck : Dev nD × CI) :
    (bigSep Finset.univ fun ck : Dev nD × CI => (cellInv ER (ringRd m) (K ck) (kcell ck) : sProp 𝕄)) ⊢ cellInv ER (ringRd m) (K ck) (kcell ck) :=
  bigSep_elim (Finset.mem_univ ck)
theorem reached_elim (ck : Dev nD × CI) :
    (bigSep Finset.univ fun ck : Dev nD × CI => (reached ER (kcell ck) 0 : sProp 𝕄)) ⊢ reached ER (kcell ck) 0 :=
  bigSep_elim (Finset.mem_univ ck)
theorem inv_at (K : Dev nD × CI → ℕ) (c : Dev nD) (k : CI) : records m K ⊢ cellInv ER (ringRd m) (K (c, k)) (kcell (c, k)) := by
  unfold records
  iintro ⟨H, -⟩
  iapply (inv_elim m K (c, k)); iexact H
theorem reached_at (K : Dev nD × CI → ℕ) (c : Dev nD) (k : CI) : records m K ⊢ reached ER (kcell (c, k)) 0 := by
  unfold records
  iintro ⟨-, H⟩
  iapply (reached_elim (F := F) (c, k)); iexact H

/-- The whole accumulator. -/
def accPts (c : Dev nD) (f : (cc0_scratch0 : Ref sig .tc).ty.Contents (Elt F)) : sProp 𝕄 :=
  ((c : Thread nD τ).loc cc0_scratch0) ↦{fullShare} f

theorem acc_split (c : Dev nD) (k : ℕ) (h : k < 32) (f : (cc0_scratch0 : Ref sig .tc).ty.Contents (Elt F)) :
    (accPts c f : sProp 𝕄) ⊣⊢ iprop(chunkPts c k h f ∗ (((c : Thread nD τ).loc cc0_scratch0) ↦[Finset.univ \ (chunk k h).view.set]{fullShare} f)) :=
  pointsTo_split_subset (Finset.subset_univ _)

/-- What device `c` spends in step `s`. -/
def stepTok (c : Dev nD) (s : Fin 31) : sProp 𝕄 :=
  iprop(atPos ER (sendCell c s) 0 ∅ 0 ∗ atPos ER (recvCell c s) 0 ∅ 0 ∗ dutyTok ER (sendCell c s) 0 false
    ∗ dutyTok ER (recvCell (nxt c) s) 0 false ∗ cred (tallyAt (recvCell c s) () N))
/-- What it has of the step afterwards: both cells closed, and its own slot. -/
def stepDone (c : Dev nD) (s : Fin 31) : sProp 𝕄 :=
  iprop(semVal (sendCell c s) 0 ∗ semVal (recvCell c s) 0 ∗ ∃ f, slotPts c s f)

theorem mem_dma (c : Dev nD) (b : Bool) (s : Fin 31) : false ∈ (ringRd (F := F) m).duties (kcell (c, .inr (b, s))) 0 := by
  rw [duties_at]; exact Finset.mem_singleton_self _
theorem send_pay (c : Dev nD) (s : Fin 31) :
    chunkPts c (sendNo c s.val) (sendNo_lt _ _) (accAt m s.val c) ⊢ (ringRd (F := F) m).payload (sendCell c s) 0 false := by
  rw [payload_at]; exact BI.Entails.refl _
theorem recv_pay (c : Dev nD) (s : Fin 31) (fn : Buf (Elt F) ((slot s).view.loc (nxt c : Thread nD τ))) :
    slotPts (nxt c) s ((slot s).view.write (Elt F) fn ((chunk (sendNo c s.val) (sendNo_lt _ _)).view.read (Elt F) (accAt m s.val c)) Finset.univ)
      ⊢ (ringRd (F := F) m).payload (recvCell (nxt c) s) 0 false := by
  rw [payload_at]
  show _ ⊢ recvPay m (nxt c) s
  unfold recvPay
  iintro H
  iexists _
  isplitr
  swap
  · iexact H
  · ipureintro; rw [View.read_write_univ, prv_nxt]; rfl

/-- The copy of chunk `k` of `c`'s accumulator into its next device's slot. -/
theorem wp_send_ring (K : Dev nD × CI → ℕ) (c : Dev nD) (s : Fin 31)
    {hsc : (slot s).view.ref.isScScratch = false}
    {hsrc : (chunk (sendNo c s.val) (sendNo_lt _ _)).view.WordExact} {hdst : (slot s).view.WordExact}
    {hsem : DmaTarget.Typed .vmem (.dma (recvS s)) (.remote (Dev.tc (nxt c) : Thread nD τ) (slot s) (.dma (sendS s)) hsc)}
    {α : Type} {Q : α → sProp 𝕄} {k : PUnit → Prog (TpuEff nD τ sig (Elt F) Λ₀ .tc) α}
    (fn : Buf (Elt F) ((slot s).view.loc (nxt c : Thread nD τ))) (W : Waits sig Unit) :
    iprop(records m K ∗ chunkPts c (sendNo c s.val) (sendNo_lt _ _) (accAt m s.val c) ∗ slotPts (nxt c) s fn
        ∗ owes (c : Thread nD τ) (Ofrom c s.val) W
        ∗ dutyTok ER (sendCell c s) 0 false ∗ dutyTok ER (recvCell (nxt c) s) 0 false)
      ⊢ iprop(((cred (tallyAt (sendCell c s) () N) ∗ owes (c : Thread nD τ) (Ofrom c (s.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chunk (sendNo c s.val) (sendNo_lt _ _)) (.remote (Dev.tc (nxt c) : Thread nD τ) (slot s) (.dma (sendS s)) hsc) (.dma (recvS s)) hsrc hdst hsem) k) Q) := by
  have hO : Ofrom c s.val = Ofrom c (s.val + 1) + tallyAt (recvCell (nxt c) s) () N := Ofrom_succ c s.isLt
  iintro ⟨#HR, Hx, Hn, HO, HtS, HtR⟩
  unfold chunkPts slotPts
  iapply (Rounds.wp_send_pointsTo 𝒱₀ ER (ringRd m) (c : Thread nD τ) none (κ₁ := K (c, .inr (false, s))) (κ₂ := K (nxt c, .inr (true, s)))
    (r₁ := 0) (r₂ := 0) (d₁ := false) (d₂ := false) (fd := fn)
    (mem_dma m c false s) (mem_dma m (nxt c) true s)
    () () N rfl (amount_at m c (.inr (false, s)) false) (amount_at m (nxt c) (.inr (true, s)) false) (Ofrom c (s.val + 1)) hO (W := W)
    (send_pay m c s) (recv_pay m c s fn)) $$ [Hx Hn HO HtS HtR]
  · isplitr; · iapply (inv_at m K c (.inr (false, s))); iexact HR
    isplitr; · iapply (inv_at m K (nxt c) (.inr (true, s))); iexact HR
    isplitl [Hx]; · iexact Hx
    isplitl [Hn]; · iexact Hn
    isplitl [HO]; · iexact HO
    isplitl [HtS]; · iexact HtS
    isplitr; · iapply (reached_at m K c (.inr (false, s))); iexact HR
    isplitl [HtR]; · iexact HtR
    iapply (reached_at m K (nxt c) (.inr (true, s))); iexact HR

theorem rest_send (c : Dev nD) (s : Fin 31) :
    bigSep ((ringRd (F := F) m).duties ((c : Thread nD τ), .dma (sendS s)) 0 \ ∅) (fun d => (ringRd (F := F) m).payload ((c : Thread nD τ), .dma (sendS s)) 0 d)
      = chunkPts c (sendNo c s.val) (sendNo_lt _ _) (accAt m s.val c) := rest_dma m c false s
theorem rest_recv (c : Dev nD) (s : Fin 31) :
    bigSep ((ringRd (F := F) m).duties ((c : Thread nD τ), .dma (recvS s)) 0 \ ∅) (fun d => (ringRd (F := F) m).payload ((c : Thread nD τ), .dma (recvS s)) 0 d)
      = recvPay m c s := rest_dma m c true s

/-- One step. -/
theorem wp_step (K : Dev nD × CI → ℕ) (c : Dev nD) (s : Fin 31) (W : Waits sig Unit) {α : Type} (Q : α → sProp 𝕄)
    (rest : PUnit → Prog (TpuEff nD τ sig (Elt F) Λ₀ .tc) α) :
    iprop(records m K ∗ levAts L lv ∗ stepTok c s ∗ (∃ f, slotPts (nxt c) s f) ∗ owes (c : Thread nD τ) (Ofrom c s.val) W ∗ accPts c (accAt m s.val c))
      ⊢ iprop(((stepDone c s ∗ (∃ W', owes (c : Thread nD τ) (Ofrom c (s.val + 1)) W') ∗ accPts c (accAt m (s.val + 1) c))
          -∗ wp frame (wpE (defs₀ (F := F)) 𝒱₀ (c : Thread nD τ) none) Set.univ (rest ⟨⟩) Q)
        -∗ wp frame (wpE (defs₀ (F := F)) 𝒱₀ (c : Thread nD τ) none) Set.univ ((step c s).bind rest) Q) := by
  rw [step_eq]
  unfold stepAt stepTok
  simp only [Prog.lift, Prog.bind_op, Prog.bind_ret, Prog.pure_eq_ret]
  iintro ⟨#HR, #Hlev, ⟨HatS, HatV, HtS, HtR, HcR⟩, ⟨%fn, Hn⟩, HO, Ha⟩ Hk
  ihave Ha' := (acc_split c (sendNo c s.val) (sendNo_lt _ _) (accAt m s.val c)).1 $$ Ha
  icases Ha' with ⟨Hx, Hrest⟩
  iapply (wp_send_ring m K c s fn W) $$ [Hx Hn HO HtS HtR]
  · isplitr; · iexact HR
    isplitl [Hx]; · iexact Hx
    isplitl [Hn]; · iexact Hn
    isplitl [HO]; · iexact HO
    isplitl [HtS] <;> iassumption
  iintro ⟨HcS, HO⟩
  -- the wait on the send cell: the chunk back
  iapply (Rounds.wp_wait_rest_token 𝒱₀ ER (ringRd m) (c : Thread nD τ) none (κ := K (c, .inr (false, s)))
      (wpE_waitDma2_eq 𝒱₀ (c : Thread nD τ) none Set.univ) (Set.mem_univ _) () (O := Ofrom c (s.val + 1)) (W := W) (R := 0) (m := 0) (T := ∅)
      (by rw [Nat.zero_add]; exact (expect_dma m c false s).symm)) $$ [HcS HO HatS]
  · isplitr; · iapply (inv_at m K c (.inr (false, s))); iexact HR
    isplitl [HcS]; · iexact HcS
    isplitl [HO]; · iexact HO
    isplitr; · iapply (mayWait_from c (s.val + 1) (.inr (false, s)) s.isLt (Nat.succ_pos _)); iexact Hlev
    iexact HatS
  iintro ⟨HO, HatS, -, Hpay⟩
  ihave Hx := (Entails.of_eq (rest_send m c s)) $$ Hpay
  ihave Ha := (acc_split c (sendNo c s.val) (sendNo_lt _ _) (accAt m s.val c)).2 $$ [Hx Hrest]
  · isplitl [Hx]
    · iexact Hx
    · iexact Hrest
  -- the wait on the receive cell: the slot
  iapply (Rounds.wp_wait_rest_token 𝒱₀ ER (ringRd m) (c : Thread nD τ) none (κ := K (c, .inr (true, s)))
      (wpE_waitDma2_eq 𝒱₀ (c : Thread nD τ) none Set.univ) (Set.mem_univ _) () (O := Ofrom c (s.val + 1)) (R := 0) (m := 0) (T := ∅)
      (by rw [Nat.zero_add]; exact (expect_dma m c true s).symm)) $$ [HcR HO HatV]
  · isplitr; · iapply (inv_at m K c (.inr (true, s))); iexact HR
    isplitl [HcR]; · iexact HcR
    isplitl [HO]; · iexact HO
    isplitr
    · iapply (mayWait_from c (s.val + 1) (.inr (true, s)) s.isLt (by show 2 + s.val < 2 + (s.val + 1); omega)); iexact Hlev
    iexact HatV
  iintro ⟨HO, HatV, -, Hpay⟩
  ihave Hp := (Entails.of_eq (rest_recv m c s)) $$ Hpay
  unfold recvPay
  icases Hp with ⟨%fr, %hfr, Hr⟩
  -- both cells close
  imod (Rounds.cell_close ER (ringRd m) (Set.mem_univ (K (c, .inr (false, s)))) (fun h => h) (R := 0 + 1) (duties_later m (sendCell c s))) $$ [HatS] with HzS
  · isplitr; · iapply (inv_at m K c (.inr (false, s))); iexact HR
    iexact HatS
  imod (Rounds.cell_close ER (ringRd m) (Set.mem_univ (K (c, .inr (true, s)))) (fun h => h) (R := 0 + 1) (duties_later m (recvCell c s))) $$ [HatV] with HzV
  · isplitr; · iapply (inv_at m K c (.inr (true, s))); iexact HR
    iexact HatV
  -- the chunk and the slot added
  unfold accPts slotPts
  iapply (wp_load 𝒱₀ (c : Thread nD τ) none Set.univ (m := aM) (Finset.subset_univ _)) $$ Ha; iintro Ha
  iapply (wp_load_rect 𝒱₀ (c : Thread nD τ) none Set.univ (m := rM) (r := slotR s) (by rw [slot_set]; exact (View.set_slice_whole _ _).subset)) $$ Hr; iintro Hr
  iapply (wp_load 𝒱₀ (c : Thread nD τ) none Set.univ (m := aM) (Finset.subset_univ _)) $$ Ha; iintro Ha
  iapply (wp_store 𝒱₀ (c : Thread nD τ) none Set.univ (m := aM) (r := chunkR (addNo c s.val) (addNo_lt _ _)) (Mk := Finset.univ) (Finset.subset_univ _)) $$ Ha; iintro Ha
  iapply Hk
  unfold stepDone slotPts
  isplitl [HzS HzV Hr]
  · isplitl [HzS]; · iexact HzS
    isplitl [HzV]; · iexact HzV
    iexists fr; iexact Hr
  isplitl [HO]; · iexists _; iexact HO
  rw [accAt_succ, ← hfr, ← pay_eq]
  iexact Ha

/-- The steps from `n` on, the first apart, as a separating product. -/
theorem bigSep_from {n : ℕ} (hn : n < 31) (Φ : Fin 31 → sProp 𝕄) :
    bigSep (Finset.univ.filter fun s : Fin 31 => n ≤ s.val) Φ
      = iprop(Φ ⟨n, hn⟩ ∗ bigSep (Finset.univ.filter fun s : Fin 31 => n + 1 ≤ s.val) Φ) := by
  rw [filter_succ hn, bigSep_insert (notMem_filter_succ hn)]; rfl

/-- The steps from `n` on, in order, and then the rest: the tokens of those steps spent, their cells closed. -/
theorem wp_steps (K : Dev nD × CI → ℕ) (c : Dev nD) (Q : PUnit → sProp 𝕄)
    (rest : Prog (TpuEff nD τ sig (Elt F) Λ₀ .tc) PUnit) (k : ℕ) : ∀ (n : ℕ) (h : n + k = 31) (W : Waits sig Unit),
    iprop(records m K ∗ levAts L lv
        ∗ (bigSep (Finset.univ.filter fun s : Fin 31 => n ≤ s.val) fun s => iprop(stepTok c s ∗ ∃ f, slotPts (nxt c) s f))
        ∗ owes (c : Thread nD τ) (Ofrom c n) W ∗ accPts c (accAt m n c))
      ⊢ iprop((((bigSep (Finset.univ.filter fun s : Fin 31 => n ≤ s.val) fun s => stepDone c s)
            ∗ (∃ W', owes (c : Thread nD τ) (Oex c) W') ∗ accPts c (accAt m 31 c))
          -∗ wp frame (wpE (defs₀ (F := F)) 𝒱₀ (c : Thread nD τ) none) Set.univ rest Q)
        -∗ wp frame (wpE (defs₀ (F := F)) 𝒱₀ (c : Thread nD τ) none) Set.univ (steps c rest k n h) Q) := by
  induction k with
  | zero =>
    intro n h W
    obtain rfl : n = 31 := by omega
    rw [filter_end, Ofrom_end, bigSep_empty, bigSep_empty]
    unfold steps
    iintro ⟨-, -, -, HO, Ha⟩ Hk
    iapply Hk
    isplitr; · iempintro
    isplitl [HO]; · iexists W; iexact HO
    iexact Ha
  | succ k ih =>
    intro n h W
    have hn : n < 31 := by omega
    have h' : n + 1 + k = 31 := by omega
    rw [bigSep_from hn, bigSep_from hn]
    unfold steps
    iintro ⟨#HR, #Hlev, ⟨⟨Ht, Hn⟩, Hs⟩, HO, Ha⟩ Hk
    iapply (wp_step m K c ⟨n, hn⟩ W Q (fun _ => steps c rest k (n + 1) h')) $$ [Ht Hn HO Ha]
    · isplitr; · iexact HR
      isplitr; · iexact Hlev
      isplitl [Ht]; · iexact Ht
      isplitl [Hn]; · iexact Hn
      isplitl [HO]; · iexact HO
      iexact Ha
    iintro ⟨Hd, ⟨%W', HO⟩, Ha⟩
    iapply (ih (n + 1) h' W') $$ [Hs HO Ha]
    · isplitr; · iexact HR
      isplitr; · iexact Hlev
      isplitl [Hs]; · iexact Hs
      isplitl [HO]; · iexact HO
      iexact Ha
    iintro ⟨Hds, HO, Ha⟩
    iapply Hk
    isplitl [Hd Hds]
    · isplitl [Hd]; · iexact Hd
      iexact Hds
    isplitl [HO]; · iexact HO
    iexact Ha

end Cert.KernelIdeal.Ring

end
-- ==== Proof.KernelIdeal.Body.lean ====
/-
# The body of one device

The entry handshake, the contribution, the thirty-one steps, the result and the exit handshake, run from what a
device has at launch to the result and every semaphore back at zero.
-/
module

public import proofs.«01_k».proof.Proof.KernelIdeal.Step

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The receive buffer and its slots -/

theorem mem_slot (s : Fin 31) (i : S31x16x512.Idx) : i ∈ (slotR s).set ↔ (i 0).val = s.val := by
  rw [Rect.mem_set_unit]
  constructor
  · intro h
    have h0 := h 0
    have h1 : s.val ≤ (i 0).val ∧ (i 0).val < s.val + 1 := h0
    omega
  · intro h a
    have ha := (i a).isLt
    fin_cases a
    · show s.val ≤ (i 0).val ∧ (i 0).val < s.val + 1; omega
    · show 0 ≤ _ ∧ _ < 0 + 16; exact ⟨Nat.zero_le _, by rw [Nat.zero_add]; exact ha⟩
    · show 0 ≤ _ ∧ _ < 0 + 512; exact ⟨Nat.zero_le _, by rw [Nat.zero_add]; exact ha⟩

theorem slots_disjoint : ∀ s ∈ (Finset.univ : Finset (Fin 31)), ∀ t ∈ (Finset.univ : Finset (Fin 31)), s ≠ t → Disjoint (slotR s).set (slotR t).set := by
  intro s _ t _ hst
  refine Finset.disjoint_left.mpr fun i hi hj => hst (Fin.ext ?_)
  rw [← (mem_slot s i).mp hi, (mem_slot t i).mp hj]
theorem slots_cover : Finset.univ.biUnion (fun s : Fin 31 => (slotR s).set) = Finset.univ := by
  ext i
  refine ⟨fun _ => Finset.mem_univ _, fun _ => Finset.mem_biUnion.mpr ⟨⟨(i 0).val, (i 0).isLt⟩, Finset.mem_univ _, (mem_slot _ i).mpr rfl⟩⟩

theorem recv_whole (c : Dev nD) (f : Buf (Elt F) ((c : Thread nD τ).loc cc0_scratch1)) :
    (((c : Thread nD τ).loc cc0_scratch1) ↦{fullShare} f : sProp 𝕄)
      = bigSep Finset.univ fun s : Fin 31 => (((c : Thread nD τ).loc cc0_scratch1) ↦[(slotR s).set]{fullShare} f) :=
  (congrArg (fun S => (((c : Thread nD τ).loc cc0_scratch1) ↦[S]{fullShare} f : sProp 𝕄)) slots_cover.symm).trans
    (pointsTo_biUnion (ℓ := (c : Thread nD τ).loc cc0_scratch1) _ _ slots_disjoint)
theorem slot_of (c : Dev nD) (s : Fin 31) (f : Buf (Elt F) ((c : Thread nD τ).loc cc0_scratch1)) :
    (((c : Thread nD τ).loc cc0_scratch1) ↦[(slotR s).set]{fullShare} f : sProp 𝕄) = slotPts c s f := by
  unfold slotPts; rw [slot_set]

theorem slot_some (c : Dev nD) (s : Fin 31) (f : Buf (Elt F) ((c : Thread nD τ).loc cc0_scratch1)) :
    (((c : Thread nD τ).loc cc0_scratch1) ↦[(slotR s).set]{fullShare} f : sProp 𝕄) ⊢ iprop(∃ f, slotPts c s f) := by
  rw [slot_of]; iintro H; iexists f; iexact H

/-- The whole receive buffer, at whatever it holds, is its slots at whatever they hold. -/
theorem recv_split (c : Dev nD) :
    (iprop(∃ f : Buf (Elt F) ((c : Thread nD τ).loc cc0_scratch1), ((c : Thread nD τ).loc cc0_scratch1) ↦{fullShare} f) : sProp 𝕄)
      ⊢ bigSep Finset.univ fun s : Fin 31 => iprop(∃ f, slotPts c s f) := by
  iintro ⟨%f, H⟩
  ihave H' := (Entails.of_eq (recv_whole c f)) $$ H
  iapply (show (bigSep Finset.univ fun s : Fin 31 => (((c : Thread nD τ).loc cc0_scratch1) ↦[(slotR s).set]{fullShare} f : sProp 𝕄))
      ⊢ bigSep Finset.univ fun s : Fin 31 => iprop(∃ f, slotPts c s f) from bigSep_mono fun s _ => slot_some c s f)
  iexact H'

theorem recv_join (c : Dev nD) :
    (bigSep Finset.univ fun s : Fin 31 => iprop(∃ f, slotPts c s f))
      ⊢ (iprop(∃ f : Buf (Elt F) ((c : Thread nD τ).loc cc0_scratch1), ((c : Thread nD τ).loc cc0_scratch1) ↦{fullShare} f) : sProp 𝕄) := by
  refine (BI.bigSep_exists_pi Finset.univ (fun (s : Fin 31) (f : Buf (Elt F) ((c : Thread nD τ).loc cc0_scratch1)) => (slotPts c s f : sProp 𝕄))).trans ?_
  iintro ⟨%fs, H⟩
  ihave H' := (show (bigSep Finset.univ fun s : Fin 31 => (slotPts c s (fs s) : sProp 𝕄))
      ⊢ iprop(∃ g, ⌜∀ t ∈ Finset.univ, ∀ i ∈ (slotR t).set, g i = fs t i⌝
        ∗ ((c : Thread nD τ).loc cc0_scratch1) ↦[Finset.univ.biUnion fun s => (slotR s).set]{fullShare} g) from by
      rw [← bigSep_congr (s := Finset.univ) fun (s : Fin 31) _ => slot_of c s (fs s)]
      exact pointsTo_biUnion_join (ℓ := (c : Thread nD τ).loc cc0_scratch1) Finset.univ (fun s : Fin 31 => (slotR s).set) fs (fs 0) slots_disjoint) $$ H
  icases H' with ⟨%g, -, H⟩
  iexists g
  rw [slots_cover]
  iexact H

/-! ## The head -/

/-- A whole buffer of the core with its contents. -/
abbrev bufPts (c : Dev nD) (b : Ref sig .tc) (X : b.ty.Contents (Elt F)) : sProp 𝕄 := ((c : Thread nD τ).loc b) ↦{fullShare} X

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev34_eq (c : Dev nD) : (⟨k0_dev34 c, k0_dev34_lt c⟩ : Dev nD) = prv c := Fin.ext (k0_dev34_eq c)
theorem dev35_eq (c : Dev nD) : (⟨k0_dev35 c, k0_dev35_lt c⟩ : Dev nD) = nxt c := Fin.ext (k0_dev35_eq c)

theorem amount_sig (c : Dev nD) (b d : Bool) : (ringRd (F := F) m).amount (kcell (c, .inl b)) 0 d = (1#32).toInt.toNat := amount_at m c (.inl b) d
theorem mem_sig (c : Dev nD) (b d : Bool) : d ∈ (ringRd (F := F) m).duties (kcell (c, .inl b)) 0 := by
  rw [duties_at]; exact Finset.mem_univ _
theorem rest_bar (c : Dev nD) :
    bigSep ((ringRd (F := F) m).duties ((c : Thread nD τ), .reg barS) 0 \ ∅) (fun d => (ringRd (F := F) m).payload ((c : Thread nD τ), .reg barS) 0 d)
      = iprop(emp ∗ barPay c) := rest_sig m c false

theorem bar_pay (c : Dev nD) : barPay c ⊢ (ringRd (F := F) m).payload ((c : Thread nD τ), .reg barS) 0 true :=
  Entails.of_eq (payload_at m c (.inl false) true).symm
theorem bar_pay_false (c : Dev nD) : iprop(emp) ⊢ (ringRd (F := F) m).payload ((c : Thread nD τ), .reg barS) 0 false :=
  Entails.of_eq (payload_at m c (.inl false) false).symm

theorem hz2 : (![0, 0] : Fin 2 → Nat) = fun _ => 0 := funext fun a => by fin_cases a <;> rfl

/-- What the head stores, from the loads as they are: the contribution. -/
theorem head_val (c : Dev nD) (f : (cc0_scratch0 : Ref sig .tc).ty.Contents (Elt F)) :
    (aM.access (Rect.unit (s := S512x512) ![0, 0] S512x512.size inb_S512x512_S512x512_0_0) : View sig .tc _ _ _).write (Elt F) f
      (contrib c (xM.view.readAt (Elt F) (Rect.unit (s := S512x256) ![0, 0] S512x256.size inb_S512x256_S512x256_0_0).toLoadRect (xOf m c))
        (eM.view.readAt (Elt F) (Rect.unit (s := S512x1) ![0, 0] S512x1.size inb_S512x1_S512x1_0_0).toLoadRect (eOf m c))
        (gM.view.readAt (Elt F) (Rect.unit (s := S256x128) ![0, 0] S256x128.size inb_S256x128_S256x128_0_0).toLoadRect (gOf m c))
        (wM.view.readAt (Elt F) (Rect.unit (s := S4x256x512) ![0, 0, 0] S1x256x512.size inb_S4x256x512_S1x256x512_0_0_0).toLoadRect (wOf m c))
        (wM.view.readAt (Elt F) (Rect.unit (s := S4x256x512) ![1, 0, 0] S1x256x512.size inb_S4x256x512_S1x256x512_1_0_0).toLoadRect (wOf m c))
        (wM.view.readAt (Elt F) (Rect.unit (s := S4x256x512) ![2, 0, 0] S1x256x512.size inb_S4x256x512_S1x256x512_2_0_0).toLoadRect (wOf m c))
        (wM.view.readAt (Elt F) (Rect.unit (s := S4x256x512) ![3, 0, 0] S1x256x512.size inb_S4x256x512_S1x256x512_3_0_0).toLoadRect (wOf m c)))
      Finset.univ = accAt m 0 c := by
  have h1 := Memref.write_access_unit_zero_univ (Elt F) cc0_scratch0 hz2 inb_S512x512_S512x512_0_0 f
  have h2 := Memref.readAt_unit_zero (Elt F) cc0_stg0_0 hz2 inb_S512x256_S512x256_0_0 (xOf m c)
  have h3 := Memref.readAt_unit_zero (Elt F) cc0_stg2_0 hz2 inb_S512x1_S512x1_0_0 (eOf m c)
  have h4 := Memref.readAt_unit_zero (Elt F) cc0_stg1_0 hz2 inb_S256x128_S256x128_0_0 (gOf m c)
  refine (h1 _).trans ?_
  show contrib c _ _ _ _ _ _ _ = contrib c _ _ _ _ _ _ _
  have key : ∀ {x x' e e' g g'} (w0 w1 w2 w3), x = x' → e = e' → g = g' →
      contrib (F := F) c x e g w0 w1 w2 w3 = contrib c x' e' g' w0 w1 w2 w3 := by
    rintro _ _ _ _ _ _ _ _ _ _ rfl rfl rfl; rfl
  exact key _ _ _ _ h2 h3 h4

/-- The staged operands of a device. -/
def ins (c : Dev nD) : sProp 𝕄 :=
  iprop(bufPts c cc0_stg0_0 (xOf m c) ∗ bufPts c cc0_stg1_0 (gOf m c) ∗ bufPts c cc0_stg2_0 (eOf m c) ∗ bufPts c cc0_stg3_0 (wOf m c)
    ∗ bufPts c cc0_stg4_0 (hOf m c))

theorem wp_head (K : Dev nD × CI → ℕ) (c : Dev nD) (W : Waits sig Unit) (Q : PUnit → sProp 𝕄)
    (rest : Prog (TpuEff nD τ sig (Elt F) Λ₀ .tc) PUnit) :
    iprop(records m K ∗ levAts L lv ∗ owes (c : Thread nD τ) (O₀ c) W
        ∗ dutyTok ER (barCell (nxt c)) 0 false ∗ dutyTok ER (barCell (prv c)) 0 true
        ∗ atPos ER (barCell c) 0 ∅ 0 ∗ cred (tallyAt (barCell c) () 2)
        ∗ (bigSep Finset.univ fun s : Fin 31 => iprop(∃ f, slotPts c s f)) ∗ ins m c ∗ ∃ f, accPts c f)
      ⊢ iprop((((semVal (barCell c) 0) ∗ (bigSep Finset.univ fun s : Fin 31 => iprop(∃ f, slotPts (nxt c) s f))
            ∗ (∃ W', owes (c : Thread nD τ) (Ofrom c 0) W') ∗ ins m c ∗ accPts c (accAt m 0 c))
          -∗ wp frame (wpE (defs₀ (F := F)) 𝒱₀ (c : Thread nD τ) none) Set.univ rest Q)
        -∗ wp frame (wpE (defs₀ (F := F)) 𝒱₀ (c : Thread nD τ) none) Set.univ ((head c).bind fun _ => rest) Q) := by
  unfold head
  simp only [semSignalWord, semWaitWord, Prog.lift, Prog.bind_op, Prog.bind_ret, Prog.pure_eq_ret, dev1_eq c, dev2_eq c]
  unfold ins
  iintro ⟨#HR, #Hlev, HO, HtN, HtP, HatB, HcB, Hslots, ⟨Hx, Hg, He, Hw, Hh⟩, ⟨%f, Ha⟩⟩ Hk
  unfold O₀
  iapply (Rounds.wp_signal 𝒱₀ ER (ringRd m) (c : Thread nD τ) none (dst := (prv c : Thread nD τ)) (κ := K (prv c, .inl false))
      (d := true) (mem_sig m (prv c) false true) (amount_sig m (prv c) false true) () (O₁ c) rfl) $$ [HO HtP Hslots]
  · isplitr; · iapply (inv_at m K (prv c) (.inl false)); iexact HR
    isplitl [HO]; · iexact HO
    isplitl [HtP]; · iexact HtP
    isplitl [Hslots]
    · iapply (bar_pay m (prv c))
      unfold barPay
      rw [nxt_prv]; iexact Hslots
    iapply (reached_at m K (prv c) (.inl false)); iexact HR
  iintro HO
  unfold O₁
  iapply (Rounds.wp_signal 𝒱₀ ER (ringRd m) (c : Thread nD τ) none (dst := (nxt c : Thread nD τ)) (κ := K (nxt c, .inl false))
      (d := false) (mem_sig m (nxt c) false false) (amount_sig m (nxt c) false false) () (Ofrom c 0) rfl) $$ [HO HtN]
  · isplitr; · iapply (inv_at m K (nxt c) (.inl false)); iexact HR
    isplitl [HO]; · iexact HO
    isplitl [HtN]; · iexact HtN
    isplitr
    · iapply (bar_pay_false m (nxt c)); iempintro
    iapply (reached_at m K (nxt c) (.inl false)); iexact HR
  iintro HO
  iapply (Rounds.wp_wait_rest_token 𝒱₀ ER (ringRd m) (c : Thread nD τ) none (κ := K (c, .inl false))
      (wpE_semWait_eq 𝒱₀ (c : Thread nD τ) none Set.univ) (Set.mem_univ _) () (O := Ofrom c 0) (W := W) (R := 0) (m := 0) (T := ∅)
      (by rw [Nat.zero_add]; exact (expect_sig m c false).symm)) $$ [HcB HO HatB]
  · isplitr; · iapply (inv_at m K c (.inl false)); iexact HR
    isplitl [HcB]; · iexact HcB
    isplitl [HO]; · iexact HO
    isplitr; · iapply (mayWait_from c 0 (.inl false) (by omega) (by show 1 < 2 + 0; omega)); iexact Hlev
    iexact HatB
  iintro ⟨HO, HatB, -, Hpay⟩
  ihave Hp := (Entails.of_eq (rest_bar m c)) $$ Hpay
  icases Hp with ⟨-, Hn⟩
  imod (Rounds.cell_close ER (ringRd m) (Set.mem_univ (K (c, .inl false))) (fun h => h) (R := 0 + 1) (duties_later m (barCell c))) $$ [HatB] with HzB
  · isplitr; · iapply (inv_at m K c (.inl false)); iexact HR
    iexact HatB
  unfold accPts
  iapply (wp_load 𝒱₀ (c : Thread nD τ) none Set.univ (m := xM) (Finset.subset_univ _)) $$ Hx; iintro Hx
  iapply (wp_load 𝒱₀ (c : Thread nD τ) none Set.univ (m := eM) (Finset.subset_univ _)) $$ He; iintro He
  iapply (wp_load 𝒱₀ (c : Thread nD τ) none Set.univ (m := gM) (Finset.subset_univ _)) $$ Hg; iintro Hg
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := aM) (Finset.subset_univ _)) $$ Ha; iintro Ha
  iapply (wp_store 𝒱₀ (c : Thread nD τ) none Set.univ (m := aM) (r := Rect.unit (s := S512x512) ![0, 0] S512x512.size inb_S512x512_S512x512_0_0)
    (Mk := Finset.univ) (Finset.subset_univ _)) $$ Ha; iintro Ha
  iapply Hk
  rw [head_val]
  isplitl [HzB]; · iexact HzB
  isplitl [Hn]; · unfold barPay; iexact Hn
  isplitl [HO]; · iexists _; iexact HO
  isplitl [Hx Hg He Hw Hh]
  · isplitl [Hx]; · iexact Hx
    isplitl [Hg]; · iexact Hg
    isplitl [He]; · iexact He
    isplitl [Hw]; · iexact Hw
    iexact Hh
  iexact Ha

/-! ## The tail -/

theorem exit_pay (c : Dev nD) (d : Bool) : iprop(emp) ⊢ (ringRd (F := F) m).payload ((c : Thread nD τ), .reg exitS) 0 d := by
  cases d <;> exact Entails.of_eq (payload_at m c (.inl true) _).symm

/-- What the tail stores, from the loads as they are: the result. -/
theorem tail_val (c : Dev nD) (f : (cc0_stg5_0 : Ref sig .tc).ty.Contents (Elt F)) :
    (oM.access (Rect.unit (s := S16x512) ![0, 0] S16x512.size inb_S16x512_S16x512_0_0) : View sig .tc _ _ _).write (Elt F) f
      (result (xM.view.readAt (Elt F) (Rect.unit (s := S512x256) (k0_off3 c) S16x256.size (k0_off3_inb c)).toLoadRect (xOf m c))
        (hM.view.readAt (Elt F) (Rect.unit (s := S256x512) ![0, 0] S256x512.size inb_S256x512_S256x512_0_0).toLoadRect (hOf m c))
        (aM.view.readAt (Elt F) (rowsR (k0_off4 c) (k0_off4_inb c)).toLoadRect (accAt m 31 c)))
      Finset.univ = outAt m c := by
  have h1 := Memref.write_access_unit_zero_univ (Elt F) cc0_stg5_0 hz2 inb_S16x512_S16x512_0_0 f
  have h2 := Memref.readAt_unit_zero (Elt F) cc0_stg4_0 hz2 inb_S256x512_S256x512_0_0 (hOf m c)
  refine (h1 _).trans ?_
  have key : ∀ {w w'} (x a), w = w' → result (F := F) x w a = result x w' a := by rintro _ _ _ _ rfl; rfl
  exact key _ _ h2

theorem wp_tail (K : Dev nD × CI → ℕ) (c : Dev nD) (W : Waits sig Unit) (Q : PUnit → sProp 𝕄) :
    iprop(records m K ∗ levAts L lv ∗ owes (c : Thread nD τ) (Oex c) W
        ∗ dutyTok ER (exitCell (nxt c)) 0 false ∗ dutyTok ER (exitCell (prv c)) 0 true
        ∗ atPos ER (exitCell c) 0 ∅ 0 ∗ cred (tallyAt (exitCell c) () 2)
        ∗ ins m c ∗ accPts c (accAt m 31 c) ∗ ∃ f, bufPts c cc0_stg5_0 f)
      ⊢ iprop((((semVal (exitCell c) 0) ∗ (∃ W', owes (c : Thread nD τ) 0 W') ∗ ins m c ∗ accPts c (accAt m 31 c) ∗ bufPts c cc0_stg5_0 (outAt m c))
          -∗ Q ⟨⟩)
        -∗ wp frame (wpE (defs₀ (F := F)) 𝒱₀ (c : Thread nD τ) none) Set.univ (tail c) Q) := by
  unfold tail
  simp only [semSignalWord, semWaitWord, Prog.lift, Prog.bind_op, Prog.bind_ret, Prog.pure_eq_ret, dev34_eq c, dev35_eq c]
  unfold ins
  iintro ⟨#HR, #Hlev, HO, HtN, HtP, HatE, HcE, ⟨Hx, Hg, He, Hw, Hh⟩, Ha, ⟨%f, Hout⟩⟩ Hk
  unfold accPts
  iapply (wp_load 𝒱₀ (c : Thread nD τ) none Set.univ (m := xM) (Finset.subset_univ _)) $$ Hx; iintro Hx
  iapply (wp_load 𝒱₀ (c : Thread nD τ) none Set.univ (m := hM) (Finset.subset_univ _)) $$ Hh; iintro Hh
  iapply (wp_load 𝒱₀ (c : Thread nD τ) none Set.univ (m := aM) (Finset.subset_univ _)) $$ Ha; iintro Ha
  iapply (wp_load 𝒱₀ (c : Thread nD τ) none Set.univ (m := oM) (Finset.subset_univ _)) $$ Hout; iintro Hout
  iapply (wp_store 𝒱₀ (c : Thread nD τ) none Set.univ (m := oM) (r := Rect.unit (s := S16x512) ![0, 0] S16x512.size inb_S16x512_S16x512_0_0)
    (Mk := Finset.univ) (Finset.subset_univ _)) $$ Hout; iintro Hout
  rw [tail_val]
  unfold Oex
  iapply (Rounds.wp_signal 𝒱₀ ER (ringRd m) (c : Thread nD τ) none (dst := (prv c : Thread nD τ)) (κ := K (prv c, .inl true))
      (d := true) (mem_sig m (prv c) true true) (amount_sig m (prv c) true true) () (tallyAt (exitCell (nxt c)) () 1) rfl) $$ [HO HtP]
  · isplitr; · iapply (inv_at m K (prv c) (.inl true)); iexact HR
    isplitl [HO]; · iexact HO
    isplitl [HtP]; · iexact HtP
    isplitr; · iapply (exit_pay m (prv c) true); iempintro
    iapply (reached_at m K (prv c) (.inl true)); iexact HR
  iintro HO
  iapply (Rounds.wp_signal 𝒱₀ ER (ringRd m) (c : Thread nD τ) none (dst := (nxt c : Thread nD τ)) (κ := K (nxt c, .inl true))
      (d := false) (mem_sig m (nxt c) true false) (amount_sig m (nxt c) true false) () 0 (zero_add _).symm) $$ [HO HtN]
  · isplitr; · iapply (inv_at m K (nxt c) (.inl true)); iexact HR
    isplitl [HO]; · iexact HO
    isplitl [HtN]; · iexact HtN
    isplitr; · iapply (exit_pay m (nxt c) false); iempintro
    iapply (reached_at m K (nxt c) (.inl true)); iexact HR
  iintro HO
  iapply (Rounds.wp_wait_rest_token 𝒱₀ ER (ringRd m) (c : Thread nD τ) none (κ := K (c, .inl true))
      (wpE_semWait_eq 𝒱₀ (c : Thread nD τ) none Set.univ) (Set.mem_univ _) () (O := 0) (W := W) (R := 0) (m := 0) (T := ∅)
      (by rw [Nat.zero_add]; exact (expect_sig m c true).symm)) $$ [HcE HO HatE]
  · isplitr; · iapply (inv_at m K c (.inl true)); iexact HR
    isplitl [HcE]; · iexact HcE
    isplitl [HO]; · iexact HO
    isplitr; · rw [MayWait_zero]; iempintro
    iexact HatE
  iintro ⟨HO, HatE, -, -⟩
  imod (Rounds.cell_close ER (ringRd m) (Set.mem_univ (K (c, .inl true))) (fun h => h) (R := 0 + 1) (duties_later m (exitCell c))) $$ [HatE] with HzE
  · isplitr; · iapply (inv_at m K c (.inl true)); iexact HR
    iexact HatE
  rw [wp_ret]; imodintro
  iapply Hk
  isplitl [HzE]; · iexact HzE
  isplitl [HO]; · iexists _; iexact HO
  isplitl [Hx Hg He Hw Hh]
  · isplitl [Hx]; · iexact Hx
    isplitl [Hg]; · iexact Hg
    isplitl [He]; · iexact He
    isplitl [Hw]; · iexact Hw
    iexact Hh
  isplitl [Ha]; · iexact Ha
  iexact Hout

/-! ## The whole body -/

/-- What device `c` starts from, beside its buffers: its positions in its cells, the tokens of the duties it pays. -/
def linear (c : Dev nD) : sProp 𝕄 :=
  iprop(atPos ER (barCell c) 0 ∅ 0 ∗ atPos ER (exitCell c) 0 ∅ 0
    ∗ dutyTok ER (barCell (nxt c)) 0 false ∗ dutyTok ER (barCell (prv c)) 0 true
    ∗ dutyTok ER (exitCell (nxt c)) 0 false ∗ dutyTok ER (exitCell (prv c)) 0 true
    ∗ bigSep Finset.univ fun s : Fin 31 => iprop(atPos ER (sendCell c s) 0 ∅ 0 ∗ atPos ER (recvCell c s) 0 ∅ 0
        ∗ dutyTok ER (sendCell c s) 0 false ∗ dutyTok ER (recvCell (nxt c) s) 0 false))
/-- And its credit: what its neighbours owe its cells. -/
def credits (c : Dev nD) : sProp 𝕄 :=
  iprop(cred (tallyAt (barCell c) () 2) ∗ cred (tallyAt (exitCell c) () 2) ∗ bigSep Finset.univ fun s : Fin 31 => cred (tallyAt (recvCell c s) () N))

theorem tok_join (c : Dev nD) :
    iprop((bigSep Finset.univ fun s : Fin 31 => iprop(atPos ER (sendCell c s) 0 ∅ 0 ∗ atPos ER (recvCell c s) 0 ∅ 0
        ∗ dutyTok ER (sendCell c s) 0 false ∗ dutyTok ER (recvCell (nxt c) s) 0 false))
      ∗ (bigSep Finset.univ fun s : Fin 31 => cred (tallyAt (recvCell c s) () N))
      ∗ bigSep Finset.univ fun s : Fin 31 => iprop(∃ f, slotPts (nxt c) s f))
    ⊢ (bigSep (Finset.univ.filter fun s : Fin 31 => 0 ≤ s.val) fun s => iprop(stepTok c s ∗ ∃ f, slotPts (nxt c) s f) : sProp 𝕄) := by
  rw [filter_all, ← bigSep_sep', ← bigSep_sep']
  exact bigSep_mono fun s _ => show iprop((atPos ER (sendCell c s) 0 ∅ 0 ∗ atPos ER (recvCell c s) 0 ∅ 0
        ∗ dutyTok ER (sendCell c s) 0 false ∗ dutyTok ER (recvCell (nxt c) s) 0 false)
        ∗ cred (tallyAt (recvCell c s) () N) ∗ ∃ f, slotPts (nxt c) s f) ⊢ iprop(stepTok c s ∗ ∃ f, slotPts (nxt c) s f) from by
    unfold stepTok
    iintro ⟨⟨H1, H2, H3, H4⟩, H5, H6⟩
    isplitr [H6]
    · isplitl [H1]; · iexact H1
      isplitl [H2]; · iexact H2
      isplitl [H3]; · iexact H3
      isplitl [H4]; · iexact H4
      iexact H5
    iexact H6

/-- The ring's own semaphores of device `c`, all at zero. -/
def ownZero (c : Dev nD) : sProp 𝕄 :=
  iprop((semVal (exitCell c) 0) ∗ bigSep Finset.univ fun s : Fin 31 => iprop((semVal (sendCell c s) 0) ∗ semVal (recvCell c s) 0))

theorem done_split (c : Dev nD) :
    (bigSep (Finset.univ.filter fun s : Fin 31 => 0 ≤ s.val) fun s => stepDone c s : sProp 𝕄)
      ⊢ iprop((bigSep Finset.univ fun s : Fin 31 => iprop((semVal (sendCell c s) 0) ∗ semVal (recvCell c s) 0))
          ∗ bigSep Finset.univ fun s : Fin 31 => iprop(∃ f, slotPts c s f)) := by
  rw [filter_all, ← bigSep_sep']
  exact bigSep_mono fun s _ => show stepDone c s ⊢ iprop(((semVal (sendCell c s) 0) ∗ semVal (recvCell c s) 0) ∗ ∃ f, slotPts c s f) from by
    unfold stepDone
    iintro ⟨H1, H2, H3⟩
    isplitr [H3]
    · isplitl [H1]; · iexact H1
      iexact H2
    iexact H3

/-- The body, from a device's launch state to its result. -/
theorem wp_body (K : Dev nD × CI → ℕ) (c : Dev nD) (W : Waits sig Unit) (Q : PUnit → sProp 𝕄) :
    iprop(records m K ∗ levAts L lv ∗ linear c ∗ credits c ∗ owes (c : Thread nD τ) (O₀ c) W
        ∗ ins m c ∗ (∃ f, bufPts c cc0_stg5_0 f) ∗ (∃ f, bufPts c cc0_scratch0 f) ∗ ∃ f, bufPts c cc0_scratch1 f)
      ⊢ iprop((((semVal (barCell c) 0) ∗ ownZero c ∗ (∃ W', owes (c : Thread nD τ) 0 W') ∗ ins m c ∗ bufPts c cc0_stg5_0 (outAt m c)
            ∗ (∃ f, bufPts c cc0_scratch0 f) ∗ ∃ f, bufPts c cc0_scratch1 f)
          -∗ Q ⟨⟩)
        -∗ wp frame (wpE (defs₀ (F := F)) 𝒱₀ (c : Thread nD τ) none) Set.univ body Q) := by
  rw [body_eq, wp_deviceId]
  unfold linear credits
  iintro ⟨#HR, #Hlev, ⟨HaB, HaE, HtBN, HtBP, HtEN, HtEP, Hst⟩, ⟨HcB, HcE, HcV⟩, HO, Hins, Hout, Ha, Hr⟩ Hk
  ihave Hsl := (recv_split c) $$ Hr
  iapply (wp_head m K c W Q (steps c (tail c) 31 0 rfl)) $$ [HO HtBN HtBP HaB HcB Hsl Hins Ha]
  · isplitr; · iexact HR
    isplitr; · iexact Hlev
    isplitl [HO]; · iexact HO
    isplitl [HtBN]; · iexact HtBN
    isplitl [HtBP]; · iexact HtBP
    isplitl [HaB]; · iexact HaB
    isplitl [HcB]; · iexact HcB
    isplitl [Hsl]; · iexact Hsl
    isplitl [Hins]; · iexact Hins
    unfold accPts; iexact Ha
  iintro ⟨HzB, Hn, ⟨%W1, HO⟩, Hins, Ha⟩
  ihave Hs := (tok_join c) $$ [Hst HcV Hn]
  · isplitl [Hst]; · iexact Hst
    isplitl [HcV]; · iexact HcV
    iexact Hn
  iapply (wp_steps m K c Q (tail c) 31 0 rfl W1) $$ [Hs HO Ha]
  · isplitr; · iexact HR
    isplitr; · iexact Hlev
    isplitl [Hs]; · iexact Hs
    isplitl [HO]; · iexact HO
    iexact Ha
  iintro ⟨Hd, ⟨%W2, HO⟩, Ha⟩
  ihave Hd' := (done_split c) $$ Hd
  icases Hd' with ⟨Hz, Hsl⟩
  ihave Hr := (recv_join c) $$ Hsl
  iapply (wp_tail m K c W2 Q) $$ [HO HtEN HtEP HaE HcE Hins Ha Hout]
  · isplitr; · iexact HR
    isplitr; · iexact Hlev
    isplitl [HO]; · iexact HO
    isplitl [HtEN]; · iexact HtEN
    isplitl [HtEP]; · iexact HtEP
    isplitl [HaE]; · iexact HaE
    isplitl [HcE]; · iexact HcE
    isplitl [Hins]; · iexact Hins
    isplitl [Ha]; · iexact Ha
    iexact Hout
  iintro ⟨HzE, HO, Hins, Ha, Hout⟩
  iapply Hk
  isplitl [HzB]; · iexact HzB
  isplitl [HzE Hz]
  · unfold ownZero
    isplitl [HzE]; · iexact HzE
    iexact Hz
  isplitl [HO]; · iexact HO
  isplitl [Hins]; · iexact Hins
  isplitl [Hout]; · iexact Hout
  isplitl [Ha]; · iexists _; unfold accPts; iexact Ha
  iexact Hr

end Cert.KernelIdeal.Ring

end
-- ==== Proof.KernelIdeal.Launch.lean ====
/-
# The launch

The body obligation of the pipelined call, the ghost state dealt to the devices at launch, and the run of the whole
program: every fair execution ends, with each device's result as computed, its arguments as they were and every
semaphore at zero.
-/
module

public import proofs.«01_k».proof.Proof.KernelIdeal.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The proof data of the call -/

/-- What a device starts from: the ring's ghost state at some names, its credit, the levels. -/
def ghost (c : Dev nD) : sProp 𝕄 := iprop(∃ K, records m K ∗ linear c)
def start (c : Dev nD) : sProp 𝕄 := iprop(ghost m c ∗ credits c ∗ levAts L lv)

/-- Before the call's one point, and after it. -/
def Φ₀ (c : Dev nD) : sProp 𝕄 :=
  iprop(start m c ∗ (∃ f, bufPts c cc0_scratch0 f) ∗ ∃ f, bufPts c cc0_scratch1 f)
def Φ₁ (c : Dev nD) : sProp 𝕄 :=
  iprop((semVal (barCell c) 0) ∗ ownZero c ∗ (∃ f, bufPts c cc0_scratch0 f) ∗ ∃ f, bufPts c cc0_scratch1 f)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => gOf m c
    | ⟨2, _⟩ => eOf m c
    | ⟨3, _⟩ => wOf m c
    | ⟨4, _⟩ => hOf m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_in (w : Fin 6) (hw : w.val < 5) (t : Fin cfg0.N) : (cfg0.win w).fetch t = true := by
  rw [fin_N t]; revert w; decide

def bodyPre (c : Dev nD) : sProp 𝕄 :=
  iprop(Φ₀ m c ∗ (dats m 0 c).owesAt () t₀.castSucc
    ∗ (∃ d, stg c cc0_stg0_0 ((dats m 0 c).before (0 : Fin 6) t₀ d)) ∗ (∃ d, stg c cc0_stg1_0 ((dats m 0 c).before (1 : Fin 6) t₀ d))
    ∗ (∃ d, stg c cc0_stg2_0 ((dats m 0 c).before (2 : Fin 6) t₀ d)) ∗ (∃ d, stg c cc0_stg3_0 ((dats m 0 c).before (3 : Fin 6) t₀ d))
    ∗ (∃ d, stg c cc0_stg4_0 ((dats m 0 c).before (4 : Fin 6) t₀ d)) ∗ (∃ d, stg c cc0_stg5_0 ((dats m 0 c).before (5 : Fin 6) t₀ d)))
def bodyPost (c : Dev nD) : sProp 𝕄 :=
  iprop(Φ₁ c ∗ (dats m 0 c).owesAt () t₀.succ
    ∗ stg c cc0_stg0_0 (xOf m c) ∗ stg c cc0_stg1_0 (gOf m c) ∗ stg c cc0_stg2_0 (eOf m c) ∗ stg c cc0_stg3_0 (wOf m c)
    ∗ stg c cc0_stg4_0 (hOf m c) ∗ stg c cc0_stg5_0 (outAt m c))

/-- The obligation of the call's one point. -/
theorem sound_body (c : Dev nD) :
    bodyPre m c ⊢ wp frame (wpE (defs₀ (F := F)) 𝒱₀ (c : Thread nD τ) none) Set.univ body (fun _ => bodyPost m c) := by
  unfold bodyPre Φ₀ start ghost
  iintro ⟨⟨⟨⟨%K, #HR, Hlin⟩, Hcr, #Hlev⟩, Hacc, Hrcv⟩, Ho, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩⟩
  have e0 : g0 = xOf m c := by rw [h0]; unfold Dat.before; rw [if_pos (fetch_in 0 (by decide) t₀)]; rfl
  have e1 : g1 = gOf m c := by rw [h1]; unfold Dat.before; rw [if_pos (fetch_in 1 (by decide) t₀)]; rfl
  have e2 : g2 = eOf m c := by rw [h2]; unfold Dat.before; rw [if_pos (fetch_in 2 (by decide) t₀)]; rfl
  have e3 : g3 = wOf m c := by rw [h3]; unfold Dat.before; rw [if_pos (fetch_in 3 (by decide) t₀)]; rfl
  have e4 : g4 = hOf m c := by rw [h4]; unfold Dat.before; rw [if_pos (fetch_in 4 (by decide) t₀)]; rfl
  subst e0 e1 e2 e3 e4
  unfold Dat.owesAt Pipeline.owesWithin
  icases Ho with ⟨%W, %hW, HO⟩
  rw [show (dats m 0 c).owed t₀.castSucc = O₀ c from rfl]
  iapply (wp_body m K c W fun _ => bodyPost m c) $$ [Hlin Hcr Hacc Hrcv HO H0 H1 H2 H3 H4 H5]
  · isplitr; · iexact HR
    isplitr; · iexact Hlev
    isplitl [Hlin]; · iexact Hlin
    isplitl [Hcr]; · iexact Hcr
    isplitl [HO]; · iexact HO
    isplitl [H0 H1 H2 H3 H4]
    · unfold ins
      isplitl [H0]; · iexact H0
      isplitl [H1]; · iexact H1
      isplitl [H2]; · iexact H2
      isplitl [H3]; · iexact H3
      iexact H4
    isplitl [H5]; · iexists g5; iexact H5
    isplitl [Hacc]; · iexact Hacc
    iexact Hrcv
  unfold ins
  iintro ⟨HzB, HzO, ⟨%W', HO⟩, ⟨H0, H1, H2, H3, H4⟩, H5, Hacc, Hrcv⟩
  unfold bodyPost Φ₁ Dat.owesAt Pipeline.owesWithin
  rw [show (dats m 0 c).owed t₀.succ = 0 from rfl]
  isplitl [HzB HzO Hacc Hrcv]
  · isplitl [HzB]; · iexact HzB
    isplitl [HzO]; · iexact HzO
    isplitl [Hacc]; · iexact Hacc
    iexact Hrcv
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 20000 in
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ body (fun _ => bodyPost m c)
  exact sound_body m c

end Cert.KernelIdeal.Ring

end
-- ==== Proof.KernelIdeal.Run.lean ====
/-
# The run

The ghost state of the ring minted for all devices at once and dealt around the ring, and the run of the whole
program: every fair execution ends, with each device's result as computed, its arguments as they were and every
semaphore at zero.
-/
module

public import proofs.«01_k».proof.Proof.KernelIdeal.Launch
public import Idealize.ShloMosaic.Lib.Pipeline.CollectiveSegs
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

/-- The semaphores that belong to the call: the exit, the sends and the receives. -/
def osem : Unit ⊕ (Bool × Fin 31) → SemLoc sig
  | .inl _ => .reg exitS
  | .inr (false, s) => .dma (sendS s)
  | .inr (true, s) => .dma (recvS s)

theorem ownSemFacts : Pipeline.OwnSemFacts cfg0.spec osem := by decide

theorem share_eq (c : Dev nD) (w : Fin cfg0.W) : (dats m 0 c).share w = fullShare := by unfold Dat.share; split <;> rfl

def ringCells : Finset (GSem nD τ sig) := Finset.univ.map ⟨kcell, kcell_injective⟩

/-- A device's cells' duty tokens: two for the barrier and for the exit, one for every send and receive. -/
abbrev TI : Type := (Bool × Bool) ⊕ (Bool × Fin 31)
def tokOf : Dev nD × TI → GSem nD τ sig × ℕ × Bool
  | (c, .inl (b, d)) => (kcell (c, .inl b), 0, d)
  | (c, .inr q) => (kcell (c, .inr q), 0, false)

theorem tokOf_injective : Function.Injective tokOf := by
  rintro ⟨c, (⟨b, d⟩ | q)⟩ ⟨c', (⟨b', d'⟩ | q')⟩ h <;> simp only [tokOf] at h
  all_goals
    have h1 := kcell_injective (congrArg Prod.fst h)
    have h2 := congrArg (fun x : GSem nD τ sig × ℕ × Bool => x.2.2) h
  · cases h1; cases h2; rfl
  · cases h1
  · cases h1
  · cases h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def tok (ct : Dev nD × TI) : sProp 𝕄 := dutyTok ER (tokOf ct).1 (tokOf ct).2.1 (tokOf ct).2.2

/-- What the launch deals each device. -/
def G (c : Dev nD) : sProp 𝕄 :=
  iprop((bigSep Finset.univ fun k : CI => roundState ER (ringRd m) (kcell (c, k)) 0)
    ∗ (bigSep Finset.univ fun k : CI => atPos ER (kcell (c, k)) 0 ∅ 0)
    ∗ (bigSep Finset.univ fun k : CI => reached ER (kcell (c, k)) 0)
    ∗ bigSep Finset.univ fun t : TI => tok (c, t))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : TI => tok (c, t) := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ### Products over the cells and over the tokens -/

theorem bigSep_bool (Φ : Bool → sProp 𝕄) : bigSep Finset.univ Φ = iprop(Φ false ∗ Φ true) :=
  bigSep_univ_eq_bigSepL [false, true] (by decide) (by decide) Φ
theorem bigSep_bs (Φ : Bool × Fin 31 → sProp 𝕄) :
    bigSep Finset.univ Φ = iprop((bigSep Finset.univ fun s => Φ (false, s)) ∗ bigSep Finset.univ fun s => Φ (true, s)) := by
  rw [bigSep_univ_prod, bigSep_bool]
theorem bigSep_CI (Φ : CI → sProp 𝕄) :
    bigSep Finset.univ Φ = iprop((Φ (.inl false) ∗ Φ (.inl true))
      ∗ (bigSep Finset.univ fun s => Φ (.inr (false, s))) ∗ bigSep Finset.univ fun s => Φ (.inr (true, s))) := by
  rw [bigSep_univ_sum, bigSep_bool, bigSep_bs]; rfl
theorem bigSep_TI (Φ : TI → sProp 𝕄) :
    bigSep Finset.univ Φ = iprop(((Φ (.inl (false, false)) ∗ Φ (.inl (false, true))) ∗ Φ (.inl (true, false)) ∗ Φ (.inl (true, true)))
      ∗ (bigSep Finset.univ fun s => Φ (.inr (false, s))) ∗ bigSep Finset.univ fun s => Φ (.inr (true, s))) := by
  rw [bigSep_univ_sum, bigSep_univ_prod, bigSep_bool, bigSep_bool, bigSep_bool, bigSep_bs]; rfl

/-! ### The semaphores at zero -/

theorem ownSems0_eq (c : Dev nD) : (Pipeline.ownSems0 (Ix := Unit) (Name := ℕ) (U := UU) (Lvl := ℕ) (Val := Elt F) (τ := τ) osem c : sProp 𝕄) = ownZero c := by
  unfold Pipeline.ownSems0 ownZero
  rw [bigSep_univ_sum, bigSep_bs, bigSep_sep']
  rw [bigSep_univ_eq_bigSepL [()] (by decide) (by decide), bigSepL_singleton]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  unfold ownZero
  rw [bigSep_sep']
  iintro ⟨⟨HE, HS, HV⟩, HB⟩
  isplitl [HB HE]
  · isplitl [HB]; · iexact HB
    iexact HE
  isplitl [HS]; · iexact HS
  iexact HV

/-! ### The cells' invariants, allocated for every device -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : CI => atPos ER (kcell (c, k)) 0 ∅ 0)
          ∗ (bigSep Finset.univ fun k : CI => reached ER (kcell (c, k)) 0)
          ∗ bigSep Finset.univ fun t : TI => tok (c, t)) := by
  unfold G
  iintro ⟨Hos, Hus, Hst, Hrest⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  iexact Hrest

/-- Positions and tokens as minted, regrouped into what each device starts from: the tokens of a cell go to the devices
    that pay its duties. -/
theorem deal :
    iprop((bigSep Finset.univ fun c : Dev nD => bigSep Finset.univ fun k : CI => atPos ER (kcell (c, k)) 0 ∅ 0)
        ∗ bigSep Finset.univ fun c : Dev nD => bigSep Finset.univ fun t : TI => tok (c, t))
      ⊢ (bigSep Finset.univ fun c : Dev nD => linear c : sProp 𝕄) := by
  unfold linear
  simp only [bigSep_CI, bigSep_TI, bigSep_sep']
  rw [bigSep_univ_equiv ring (fun c : Dev nD => (tok (c, .inl (false, false)) : sProp 𝕄)),
    bigSep_univ_equiv ring.symm (fun c : Dev nD => (tok (c, .inl (false, true)) : sProp 𝕄)),
    bigSep_univ_equiv ring (fun c : Dev nD => (tok (c, .inl (true, false)) : sProp 𝕄)),
    bigSep_univ_equiv ring.symm (fun c : Dev nD => (tok (c, .inl (true, true)) : sProp 𝕄)),
    bigSep_univ_equiv ring (fun c : Dev nD => (bigSep Finset.univ fun s : Fin 31 => tok (c, .inr (true, s)) : sProp 𝕄))]
  iintro ⟨⟨⟨Ha1, Ha2⟩, Ha3, Ha4⟩, ⟨⟨Ht1, Ht2⟩, Ht3, Ht4⟩, Ht5, Ht6⟩
  isplitl [Ha1]; · iexact Ha1
  isplitl [Ha2]; · iexact Ha2
  isplitl [Ht1]; · iexact Ht1
  isplitl [Ht2]; · iexact Ht2
  isplitl [Ht3]; · iexact Ht3
  isplitl [Ht4]; · iexact Ht4
  isplitl [Ha3]; · iexact Ha3
  isplitl [Ha4]; · iexact Ha4
  isplitl [Ht5]; · iexact Ht5
  iexact Ht6

theorem ghost_intro (K : Dev nD × CI → ℕ) (c : Dev nD) : iprop(records m K ∗ linear c) ⊢ ghost m c := by
  unfold ghost
  iintro H; iexists K; iexact H

/-- What is persistent may be had beside every summand. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem regroup :
    (bigSep Finset.univ fun c : Dev nD => iprop((bigSep Finset.univ fun k => iprop(∃ κ : ℕ, cellInv ER (ringRd m) κ (kcell (c, k))))
          ∗ (bigSep Finset.univ fun k : CI => atPos ER (kcell (c, k)) 0 ∅ 0)
          ∗ (bigSep Finset.univ fun k : CI => reached ER (kcell (c, k)) 0)
          ∗ bigSep Finset.univ fun t : TI => tok (c, t)) : sProp 𝕄)
      ⊢ bigSep Finset.univ (ghost m) := by
  rw [bigSep_sep', bigSep_sep', bigSep_sep', ← bigSep_univ_prod (fun ck : Dev nD × CI => iprop(∃ κ : ℕ, cellInv ER (ringRd m) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Hlin := (deal (F := F)) $$ [Hat Htok]
  · isplitl [Hat]; · iexact Hat
    iexact Htok
  iapply (bigSep_beside (R := records m K) fun c _ => ghost_intro m K c)
  isplitr
  · unfold records; isplitl; · iexact HI
    iexact HR
  · iexact Hlin

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ### The credit at launch -/

theorem cred_two (g : GSem nD τ sig) : iprop(cred (tallyAt g () 1) ∗ cred (tallyAt g () 1)) ⊢ (cred (tallyAt g () 2) : sProp 𝕄) := by
  refine (cred_add _ _).2.trans (Entails.of_eq ?_)
  rw [tallyAt_add]

/-- What is owed to the next, or to the device before, is credit at every device. -/
theorem cred_nxt (k : CI) (n : ℕ) (c : Dev nD) :
    (Pipeline.launchCred (fun d => tallyAt (kcell (nxt d, k)) () n) c : sProp 𝕄) ⊢ cred (tallyAt (kcell (c, k)) () n) :=
  Pipeline.launchCred_tallyAt (csem k) nxt prv nxt_prv prv_nxt () n c
theorem cred_prv (k : CI) (n : ℕ) (c : Dev nD) :
    (Pipeline.launchCred (fun d => tallyAt (kcell (prv d, k)) () n) c : sProp 𝕄) ⊢ cred (tallyAt (kcell (c, k)) () n) :=
  Pipeline.launchCred_tallyAt (csem k) prv nxt prv_nxt nxt_prv () n c

theorem creds (c : Dev nD) : (Pipeline.launchCred O₀ c : sProp 𝕄) ⊢ credits c := by
  have h : (Pipeline.launchCred O₀ c : sProp 𝕄)
      = iprop((((Pipeline.launchCred (fun d => tallyAt (kcell (nxt d, .inl true)) () 1) c
          ∗ Pipeline.launchCred (fun d => tallyAt (kcell (prv d, .inl true)) () 1) c)
          ∗ bigSep (Finset.univ.filter fun s : Fin 31 => 0 ≤ s.val) fun s => Pipeline.launchCred (fun d => tallyAt (kcell (nxt d, .inr (true, s))) () N) c)
          ∗ Pipeline.launchCred (fun d => tallyAt (kcell (nxt d, .inl false)) () 1) c)
          ∗ Pipeline.launchCred (fun d => tallyAt (kcell (prv d, .inl false)) () 1) c) := by
    show (Pipeline.launchCred (fun d => ((tallyAt (exitCell (nxt d)) () 1 + tallyAt (exitCell (prv d)) () 1)
      + ∑ s ∈ Finset.univ.filter (fun s : Fin 31 => 0 ≤ s.val), tallyAt (recvCell (nxt d) s) () N)
      + tallyAt (barCell (nxt d)) () 1 + tallyAt (barCell (prv d)) () 1) c : sProp 𝕄) = _
    rw [Pipeline.launchCred_add, Pipeline.launchCred_add, Pipeline.launchCred_add, Pipeline.launchCred_add, Pipeline.launchCred_sum]
  rw [h, filter_all]
  unfold credits
  iintro ⟨⟨⟨⟨H1, H2⟩, H3⟩, H4⟩, H5⟩
  isplitl [H4 H5]
  · iapply (cred_two (F := F) (barCell c))
    isplitl [H4]
    · iapply (cred_nxt (F := F) (.inl false) 1 c); iexact H4
    iapply (cred_prv (F := F) (.inl false) 1 c); iexact H5
  isplitl [H1 H2]
  · iapply (cred_two (F := F) (exitCell c))
    isplitl [H1]
    · iapply (cred_nxt (F := F) (.inl true) 1 c); iexact H1
    iapply (cred_prv (F := F) (.inl true) 1 c); iexact H2
  iapply (show (bigSep Finset.univ fun s : Fin 31 => Pipeline.launchCred (fun d => tallyAt (kcell (nxt d, .inr (true, s))) () N) c : sProp 𝕄)
      ⊢ bigSep Finset.univ fun s : Fin 31 => cred (tallyAt (recvCell c s) () N) from bigSep_mono fun s _ => cred_nxt (.inr (true, s)) N c)
  iexact H3

/-! ### In and out of the call -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro H
  iexact H

/-- The staging semaphores are none of the ring's. -/
theorem stage_low (w : Fin cfg0.W) (s : Fin (cfg0.win w).nbuf) : lvOf (ofCell (.dma ((cfg0.win w).sem s))) = 0 := by
  have hlt : ((cfg0.win w).sem s).val < 6 := by revert w s; decide
  rcases h : ofCell (.dma ((cfg0.win w).sem s)) with _ | k
  · rfl
  · have h' := ofCell_some h
    rcases k with (b | ⟨b, r⟩) <;> cases b <;> simp only [csem] at h'
    · cases h'
    · cases h'
    · rfl
    · have := congrArg Fin.val (SemLoc.dma.inj h')
      rw [recvS_val] at this
      have e : ((cfg0.win w).sem s).val = ((win0 w).sem s).val := rfl
      omega

theorem waits (c : Dev nD) : (levAts L lv : sProp 𝕄) ⊢ Pipeline.cellsWaits cfgs (dats m) () 0 c :=
  Pipeline.cellsWaits_intro cfgs (dats m) () 0 c fun w s t =>
    mayWait_stage c _ (stage_low w s) _ (by
      rcases t with ⟨_ | _, ht⟩
      · exact Or.inl rfl
      · exact Or.inr rfl)

/-! ## The run -/

/-- What window `w`'s array holds on device `c` at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 40000 in
/-- From any memory with every semaphore at zero, every fair execution of the program on the ring of thirty-two devices
    ends, and at its end every window's array is at its computed contents and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array is at the end what it was. -/
theorem finalA_in (c : Dev nD) (w : Fin cfg0.W) (hw : (cfg0.win w).isOut = false) : finalA m c w = m ((cfg0.win w).arr.view.loc (c : Thread nD τ)) :=
  (dats m 0 c).arrAt_in w hw _

variable {m} in
/-- The arguments are at the end what they were. -/
theorem args_kept {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c 0).trans (finalA_in m c 0 rfl), (h c 1).trans (finalA_in m c 1 rfl), (h c 2).trans (finalA_in m c 2 rfl),
    (h c 3).trans (finalA_in m c 3 rfl), (h c 4).trans (finalA_in m c 4 rfl)⟩

end Cert.KernelIdeal.Ring

end
-- ==== Proof.Same.lean ====
/-
# The kernel and the idealized kernel are one program

No operation was rewritten on the way from one to the other, thus what is proved of the idealized kernel's run, for any
float values, holds of the kernel's.
-/
module

public import proofs.«01_k».proof.Proof.KernelIdeal.Run
public import proofs.«01_k».proof.Proof.Gen.Kernel

@[expose] public section

noncomputable section

namespace Cert.Same

open Idealize.ShloMosaic Idealize.SL.Sem

variable {F : FTy → Type} [FloatOps F]

/-- The two bodies are equal, -/
theorem body_eq : Cert.Kernel.cc0_body (F := F) = Cert.KernelIdeal.cc0_body (F := F) := rfl

/-- so are the tables that hold them, -/
theorem table_eq : Cert.Kernel.defs₀ (F := F) = Cert.KernelIdeal.defs₀ (F := F) := by
  unfold Cert.Kernel.defs₀ Cert.KernelIdeal.defs₀
  refine congrArg (Defs.onTc (Λ := Cert.KernelIdeal.Λ₀)) (funext fun l => funext fun x => ?_)
  match l, x with
  | ⟨0, _⟩, _ => rfl

/-- and the tables with their pipelines. -/
theorem defs_eq : Cert.Kernel.defs (F := F) = Cert.KernelIdeal.defs (F := F) :=
  congrArg (Pipeline.defs (Cert.KernelIdeal.pcfgs (F := F))) table_eq

/-- The kernel's run: every fair execution ends with every array at its computed contents and every semaphore at zero. -/
theorem run_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => Cert.KernelIdeal.Ring.QC m r ∧ r.2.sem = fun _ => 0) :=
  (congrArg (fun D => θ_run D (onTc (τ := Cert.KernelIdeal.τ) (Cert.KernelIdeal.main (F := F))) ⟨m, fun _ => 0, ρ⟩
    (fun r => Cert.KernelIdeal.Ring.QC m r ∧ r.2.sem = fun _ => 0)) defs_eq).mpr (Cert.KernelIdeal.Ring.run_main m ρ)

end Cert.Same

end
-- ==== Proof.Value.RingSum.lean ====
/-
# A ring reduce-scatter sums over the ring

The arithmetic of the thirty-one steps, at one element of the array and away from any program: at step `n` device `c`
adds into its chunk number `(c + 62 - n) % 32` what the device before it holds there. After the last step the device
whose number is the chunk's holds the sum of what all thirty-two held at first.
-/
module

public import Mathlib.Algebra.BigOperators.Fin
public import Mathlib.Data.Fintype.EquivFin

@[expose] public section

namespace Cert.RingSum

variable {M : Type} [AddCommMonoid M]

/-- The device `q` places after the one that follows device `k`. -/
def after (k q : ℕ) : Fin 32 := ⟨(k + 1 + q) % 32, Nat.mod_lt _ (by decide)⟩

/-- The device before. -/
def before (c : Fin 32) : Fin 32 := ⟨(c.val + 31) % 32, Nat.mod_lt _ (by decide)⟩

theorem before_after (k q : ℕ) : before (after k (q + 1)) = after k q := by
  apply Fin.ext; simp only [before, after]; omega

variable (f : ℕ → Fin 32 → M) (k : ℕ)

/-- A device's element is untouched until the step at which the chunk reaches it. -/
theorem early (hk : k < 32) (hkeep : ∀ n c, n < 31 → (c.val + 62 - n) % 32 ≠ k → f (n + 1) c = f n c)
    (q : ℕ) (hq : q < 32) : ∀ n, n + 1 ≤ q → f n (after k q) = f 0 (after k q)
  | 0, _ => rfl
  | n + 1, h => by
    rw [hkeep n _ (by omega) (by simp only [after]; omega), early hk hkeep q hq n (by omega)]

/-- From that step on it is the sum over the devices the chunk has visited. -/
theorem late (hk : k < 32) (hkeep : ∀ n c, n < 31 → (c.val + 62 - n) % 32 ≠ k → f (n + 1) c = f n c)
    (hadd : ∀ n c, n < 31 → (c.val + 62 - n) % 32 = k → f (n + 1) c = f n c + f n (before c)) :
    ∀ q, q < 32 → ∀ n, q ≤ n → n ≤ 31 → f n (after k q) = ∑ t ∈ Finset.range (q + 1), f 0 (after k t) := by
  intro q
  induction q with
  | zero =>
    intro _ n _ hn
    rw [Finset.sum_range_one]
    induction n with
    | zero => rfl
    | succ n ih => rw [hkeep n _ (by omega) (by simp only [after]; omega), ih (Nat.zero_le _) (by omega)]
  | succ q ihq =>
    intro hq n hn hn'
    induction n with
    | zero => omega
    | succ n ih =>
      rcases Nat.lt_or_ge q n with h | h
      · rw [hkeep n _ (by omega) (by simp only [after]; omega), ih (by omega) (by omega)]
      · have e : n = q := by omega
        subst e
        rw [hadd n _ (by omega) (by simp only [after]; omega), before_after, ihq (by omega) n le_rfl (by omega),
          early f k hk hkeep (n + 1) hq n le_rfl, Finset.sum_range_succ _ (n + 1), add_comm]

/-- After the last step device `k` holds at its own chunk the sum over all the devices. -/
theorem total (c : Fin 32) (hkeep : ∀ n d, n < 31 → (d.val + 62 - n) % 32 ≠ c.val → f (n + 1) d = f n d)
    (hadd : ∀ n d, n < 31 → (d.val + 62 - n) % 32 = c.val → f (n + 1) d = f n d + f n (before d)) :
    f 31 c = ∑ d : Fin 32, f 0 d := by
  have h := late f c.val c.isLt hkeep hadd 31 (by decide) 31 le_rfl le_rfl
  have e : after c.val 31 = c := by apply Fin.ext; simp only [after]; omega
  rw [e] at h
  rw [h, Finset.sum_range]
  refine Fintype.sum_bijective (fun t : Fin 32 => after c.val t.val) ?_ _ _ (fun _ => rfl)
  refine Finite.injective_iff_bijective.mp fun a b hab => ?_
  have := congrArg Fin.val hab
  apply Fin.ext
  simp only [after] at this
  omega

end Cert.RingSum

end
-- ==== Proof.KernelIdeal.Reduced.lean ====
/-
# The accumulator's chunk after the ring, at an element

At the ideal values every element of a device's own chunk of the accumulator is, after the thirty-one steps, the sum of
what all the devices contributed at that element.
-/
module

public import proofs.«01_k».proof.Proof.KernelIdeal.Contents
public import proofs.«01_k».proof.Proof.Value.RingSum
public import Idealize.ShloMosaic.PureOps.Ideal.Laws
public import Idealize.ShloMosaic.Lib.ValueIdx
public import Idealize.ShloMosaic.Lib.Pipeline.Value

@[expose] public section

noncomputable section

namespace Cert.KernelIdeal.Ring

open Cert.KernelIdeal Cert.KernelIdeal.Gen
open Idealize.ShloMosaic Idealize.ShloMosaic.TcCoe Idealize.SL.Sem

variable (m : (ℓ : Loc nD τ sig) → Buf (Elt Ideal) ℓ)

/-- An element of device `c`'s accumulator after `n` steps, as an extended real. -/
def accE (n : ℕ) (c : Dev nD) (i : S512x512.Idx) : EReal := accAt m n c i

/-- An element outside the chunk that a step adds into keeps its value through the step. -/
theorem accAt_keep (n : ℕ) (c : Dev nD) (i : S512x512.Idx) (h : (i 0).val / 16 ≠ addNo c n) : accE m (n + 1) c i = accE m n c i := by
  unfold accE
  rw [accAt_succ]
  refine View.write_of_not_mem _ _ _ ?_
  intro hi
  have hi' : i ∈ (chunkR (addNo c n) (addNo_lt c n)).set := by
    have e : (aM.access (chunkR (addNo c n) (addNo_lt c n)) : View sig .tc _ _ _).setOn Finset.univ
        = (chunkR (addNo c n) (addNo_lt c n)).set := View.set_slice_whole _ _
    rw [e] at hi; exact hi
  have h0 := Rect.mem_set_unit.mp hi' 0
  have h1 : 16 * addNo c n ≤ (i 0).val ∧ (i 0).val < 16 * addNo c n + 16 := h0
  omega

/-- An element of that chunk gets the sum of this device's and the previous device's. -/
theorem accAt_add (n : ℕ) (hn : n < 31) (c : Dev nD) (i : S512x512.Idx) (h : (i 0).val / 16 = addNo c n) :
    accE m (n + 1) c i = accE m n c i + accE m n (prv c) i := by
  unfold accE
  have hi : i ∈ (chunkR (addNo c n) (addNo_lt c n)).set := by
    rw [Rect.mem_set_unit]
    intro a
    match a with
    | ⟨0, _⟩ => show 16 * addNo c n ≤ (i 0).val ∧ (i 0).val < 16 * addNo c n + 16; omega
    | ⟨1, _⟩ => have : (i 1).val < 512 := (i 1).isLt; exact ⟨Nat.zero_le _, by show (i 1).val < 0 + 512; omega⟩
  rw [← Rect.map_emb_univ, Finset.mem_map] at hi
  obtain ⟨x, -, rfl⟩ := hi
  rw [accAt_succ]
  refine (View.write_emb_of_mem (v := (aM.access (chunkR (addNo c n) (addNo_lt c n)) : View sig .tc _ _ _)) (Val := Elt Ideal)
    (accAt m n c) _ (Finset.mem_univ x)).trans ?_
  unfold addRows
  rw [shapeCast_self]
  show accE m n c _ + (sent m (prv c) n x : EReal) = accE m n c _ + accE m n (prv c) _
  congr 1
  unfold sent
  have key : ∀ (k k' : ℕ) (e : k = k') (p : k < 32) (p' : k' < 32) (f : (cc0_scratch0 : Ref sig .tc).ty.Contents (Elt Ideal)),
      (chunk k p).view.read (Elt Ideal) f x = f ((chunkR k' p').emb x) := by rintro k _ rfl p p' f; rfl
  exact key _ _ (sendNo_prv c hn) _ _ _

/-- After the steps, an element of device `c`'s own chunk is the sum of the contributions of all the devices. -/
theorem reduced (c : Dev nD) (i : S512x512.Idx) (h : (i 0).val / 16 = c.val) :
    accE m 31 c i = ∑ d : Fin 32, accE m 0 d i :=
  RingSum.total (fun n d => accE m n d i) c
    (fun n d _ hd => accAt_keep m n d i (fun e => hd (by rw [← h, e]; rfl)))
    (fun n d hn hd => accAt_add m n hn d i (by rw [h, ← hd]; rfl))

end Cert.KernelIdeal.Ring

end
-- ==== Proof.Value.Lookup.lean ====
/-
# The reference's two lookups

The reference looks a token's route up in the softmax's row and in the table of the experts' weights. At a route that
numbers an expert both read there; at any other the weights read are zero.
-/
module

public import proofs.«01_k».proof.Proof.Gen.ReferenceIdeal.Read
public import Idealize.ShloMosaic.Lib.ReduceAll
public import Idealize.ShloMosaic.Lib.ValueIdxCore

@[expose] public section

noncomputable section

namespace Cert.Lookup

open Cert.ReferenceIdeal Cert.ReferenceIdeal.Gen
open Idealize.ShloMosaic Idealize.ShloMosaic.ValueIdx
open Cert.ReferenceIdeal.Read

/-! ## Conjunctions over an axis of one element -/

/-- Two one-bit words that are one together are equal. -/
theorem bit_ext {a b : BitVec 1} (h : a = 1#1 ↔ b = 1#1) : a = b := by
  rcases BitVec.eq_zero_or_eq_one a with ha | ha
  · rcases BitVec.eq_zero_or_eq_one b with hb | hb
    · rw [ha, hb]
    · have := h.mpr hb; rw [ha] at this; exact absurd this (by decide)
  · rw [ha, h.mp ha]

/-- A conjunction over one index only is the bit at that index. -/
theorem and_single {s t u : Shape} {axes : List (Fin s.rank)} (v : s.Idx → BitVec 1) (init : u.Idx → BitVec 1) (h : s.ReducesTo axes t)
    (hu : 0 < u.numel) (j : t.Idx) (i : s.Idx) (h1 : init (Shape.Idx.first hu) = 1#1) (hi : h.drop i = j)
    (honly : ∀ i', h.drop i' = j → i' = i) : Host.reduce IntOp.andi v init h hu j = v i := by
  refine bit_ext ⟨fun e => Host.reduce_andi_eq_one v init h hu j e i hi, fun e => ?_⟩
  rw [Host.reduce_eq_foldl]
  refine IntOp.foldl_andi_one v _ _ h1 fun i' hm => ?_
  have hd : h.drop i' = j := by simpa using (List.mem_filter.mp hm).2
  rw [honly i' hd, e]

theorem and_col (v : S512x1.Idx → BitVec 1) (init : S_.Idx → BitVec 1) (h1 : init (Shape.Idx.first h_S_) = 1#1) (n : Fin 512) :
    Host.reduce IntOp.andi v init reducesTo_S512x1_S512_d1 h_S_ (ix1 n) = v (ix2 n (0 : Fin 1)) :=
  and_single v init _ _ _ _ h1 (funext fun a => by match a with | ⟨0, _⟩ => rfl) fun i' hd => by
    have h0 : i' 0 = n := congrFun hd 0
    funext a
    match a with
    | ⟨0, _⟩ => exact h0
    | ⟨1, _⟩ => exact Subsingleton.elim (α := Fin 1) _ _

theorem and_unit (v : S512x1x1.Idx → BitVec 1) (init : S_.Idx → BitVec 1) (h1 : init (Shape.Idx.first h_S_) = 1#1) (n : Fin 512) :
    Host.reduce IntOp.andi v init reducesTo_S512x1x1_S512x1_d2 h_S_ (ix2 n (0 : Fin 1)) = v (ix3 n (0 : Fin 1) (0 : Fin 1)) :=
  and_single v init _ _ _ _ h1 (funext fun a => by match a with | ⟨0, _⟩ => rfl | ⟨1, _⟩ => rfl) fun i' hd => by
    have h0 : i' 0 = n := congrFun hd 0
    funext a
    match a with
    | ⟨0, _⟩ => exact h0
    | ⟨1, _⟩ => exact Subsingleton.elim (α := Fin 1) _ _
    | ⟨2, _⟩ => exact Subsingleton.elim (α := Fin 1) _ _

/-! ## Words that number an expert -/

theorem ge_zero (r : Fin 128) : IntOp.cmpi .sge (BitVec.ofNat 32 r.val) 0#32 = 1#1 := by revert r; decide
theorem not_lt_zero (r : Fin 128) : IntOp.cmpi .slt (BitVec.ofNat 32 r.val) 0#32 = 0#1 := by revert r; decide
theorem le_last (r : Fin 128) : IntOp.cmpi .sle (BitVec.ofNat 32 r.val) 127#32 = 1#1 := by revert r; decide
theorem toNat_clamped (r : Fin 128) : min (BitVec.ofNat 32 r.val).toInt.toNat 127 = r.val := by revert r; decide

/-- A word between the two bounds numbers an expert. -/
theorem exists_of_bounds (w : BitVec 32) (h : IntOp.andi (IntOp.cmpi .sge w 0#32) (IntOp.cmpi .sle w 127#32) = 1#1) :
    ∃ r : Fin 128, w = BitVec.ofNat 32 r.val := by
  have hb : ∀ a b : BitVec 1, IntOp.andi a b = 1#1 → a = 1#1 ∧ b = 1#1 := by decide
  obtain ⟨h0, h1⟩ := hb _ _ h
  have hof : ∀ b : Bool, BitVec.ofBool b = 1#1 → b = true := by decide
  have h0' := BitVec.sle_iff_toInt_le.mp (hof _ h0)
  have h1' := BitVec.sle_iff_toInt_le.mp (hof _ h1)
  have hz : (0#32 : BitVec 32).toInt = 0 := by decide
  have hl : (127#32 : BitVec 32).toInt = 127 := by decide
  rw [hz] at h0'; rw [hl] at h1'
  rw [BitVec.toInt_eq_toNat_cond] at h0' h1'
  have hw := w.isLt
  have hlt : w.toNat < 128 := by
    split at h0' <;> simp_all <;> omega
  exact ⟨⟨w.toNat, hlt⟩, by simp⟩

/-! ## The two gathers -/

/-- The dimension numbers of the lookup in the softmax's rows, and of the lookup in the table of weights. -/
abbrev rowDims : GatherDims S512x128 S512x1x1 S512x1 := gather_S512x128_S512x1x1_S512x1_n_1_0_0_1_2_11
abbrev tabDims : GatherDims S128x256x512 S512x1 S512x256x512 := gather_S128x256x512_S512x1_S512x256x512_12_0_n_n_0_1_1256512

/-- The lookup of each row's column, at a row: the operand there at the clamped route. -/
theorem take_apply {α : Type} (v : S512x128.Idx → α) (idx : IVec S512x1x1 32) (n : Fin 512) (r : Fin 128)
    (h : idx (ix3 n (0 : Fin 1) (0 : Fin 1)) = BitVec.ofNat 32 r.val) :
    Host.gather rowDims v idx (ix2 n (0 : Fin 1)) = v (ix2 n r) := by
  have e0 : rowDims.start (ix2 n (0 : Fin 1)) idx (0 : Fin 2) + rowDims.batchCoord (ix2 n (0 : Fin 1)) (0 : Fin 2) + rowDims.offCoord (ix2 n (0 : Fin 1)) (0 : Fin 2) = n.val := by
    rw [rowDims.offCoord_eq_zero _ _ (by decide), GatherDims.start_batching _ _ _ _ (by decide), Nat.zero_add, Nat.add_zero]
    unfold GatherDims.batchCoord
    rw [dif_pos (by decide)]
    rfl
  have e1 : rowDims.start (ix2 n (0 : Fin 1)) idx (1 : Fin 2) + rowDims.batchCoord (ix2 n (0 : Fin 1)) (1 : Fin 2) + rowDims.offCoord (ix2 n (0 : Fin 1)) (1 : Fin 2) = r.val := by
    rw [rowDims.offCoord_eq_zero _ _ (by decide), rowDims.batchCoord_eq_zero _ _ (by decide), Nat.add_zero]
    unfold GatherDims.start
    rw [dif_pos (by decide)]
    refine Eq.trans ?_ (toNat_clamped r)
    rw [← h]
    refine congrArg (fun i => min (idx i).toInt.toNat 127) (funext fun b => Fin.ext ?_)
    match b with
    | ⟨0, _⟩ => rfl
    | ⟨1, _⟩ => rfl
    | ⟨2, _⟩ => rfl
  unfold Host.gather
  refine congrArg v (funext fun a => Fin.ext ?_)
  match a with
  | ⟨0, _⟩ => exact e0
  | ⟨1, _⟩ => exact e1

/-- The lookup of each row's table of weights, at an element. -/
theorem table_apply {α : Type} (v : S128x256x512.Idx → α) (idx : IVec S512x1 32) (n : Fin 512) (k : Fin 256) (o : Fin 512) (r : Fin 128)
    (h : idx (ix2 n (0 : Fin 1)) = BitVec.ofNat 32 r.val) :
    Host.gather tabDims v idx (ix3 n k o) = v (ix3 r k o) := by
  have e0 : tabDims.start (ix3 n k o) idx (0 : Fin 3) + tabDims.batchCoord (ix3 n k o) (0 : Fin 3) + tabDims.offCoord (ix3 n k o) (0 : Fin 3) = r.val := by
    rw [tabDims.offCoord_eq_zero _ _ (by decide), tabDims.batchCoord_eq_zero _ _ (by decide), Nat.add_zero]
    unfold GatherDims.start
    rw [dif_pos (by decide)]
    refine Eq.trans ?_ (toNat_clamped r)
    rw [← h]
    refine congrArg (fun i => min (idx i).toInt.toNat 127) (funext fun b => Fin.ext ?_)
    match b with
    | ⟨0, _⟩ => rfl
    | ⟨1, _⟩ => rfl
  have e1 : tabDims.start (ix3 n k o) idx (1 : Fin 3) + tabDims.batchCoord (ix3 n k o) (1 : Fin 3) + tabDims.offCoord (ix3 n k o) (1 : Fin 3) = k.val := by
    rw [tabDims.batchCoord_eq_zero _ _ (by decide), Nat.add_zero]
    unfold GatherDims.start GatherDims.offCoord
    rw [dif_neg (by decide), dif_pos (by decide), Nat.zero_add]
    rfl
  have e2 : tabDims.start (ix3 n k o) idx (2 : Fin 3) + tabDims.batchCoord (ix3 n k o) (2 : Fin 3) + tabDims.offCoord (ix3 n k o) (2 : Fin 3) = o.val := by
    rw [tabDims.batchCoord_eq_zero _ _ (by decide), Nat.add_zero]
    unfold GatherDims.start GatherDims.offCoord
    rw [dif_neg (by decide), dif_pos (by decide), Nat.zero_add]
    rfl
  unfold Host.gather
  refine congrArg v (funext fun a => Fin.ext ?_)
  match a with
  | ⟨0, _⟩ => exact e0
  | ⟨1, _⟩ => exact e1
  | ⟨2, _⟩ => exact e2

end Cert.Lookup

end
-- ==== Proof.Value.Reference.lean ====
/-
# The reference at an element

The shared expert's product plus, for a token whose route numbers an expert, the softmax at the route times the product
with that expert's weights, and nothing for any other token.
-/
module

public import proofs.«01_k».proof.Proof.Value.Lookup

@[expose] public section

noncomputable section

namespace Cert.Lookup

open Cert.ReferenceIdeal Cert.ReferenceIdeal.Gen
open Idealize.ShloMosaic Idealize.ShloMosaic.ValueIdx
open Cert.ReferenceIdeal.Read

variable (x : FVec Ideal S512x256 .f32) (g : FVec Ideal S256x128 .f32) (e : IVec S512x1 32)
  (W : FVec Ideal S128x256x512 .f32) (H : FVec Ideal S256x512 .f32)

/-- An index of a column is its row's. -/
theorem col_ext (i : S512x1.Idx) (n : Fin 512) (h : (i 0).val = n.val) : i = ix2 n (0 : Fin 1) := funext fun a => by
  match a with
  | ⟨0, _⟩ => exact Fin.ext h
  | ⟨1, _⟩ => exact Subsingleton.elim (α := Fin 1) _ _

/-- The route that the table is read at is the token's. -/
theorem route_apply (n : Fin 512) : val_main_v14 (F := Ideal) e (ix2 n (0 : Fin 1)) = e (ix2 n (0 : Fin 1)) := by
  rw [val_main_v14_apply, val_main_v11_apply]
  exact congrArg e (col_ext _ n (Nat.div_one _))

/-- The bit that keeps a row of weights. -/
theorem keep_apply (n : Fin 512) : val_main_v21 (F := Ideal) e (ix1 n)
    = IntOp.andi (IntOp.cmpi .sge (e (ix2 n (0 : Fin 1))) 0#32) (IntOp.cmpi .sle (e (ix2 n (0 : Fin 1))) 127#32) := by
  unfold val_main_v21
  refine (and_col _ _ rfl n).trans ?_
  rw [val_main_v20_apply, val_main_v16_apply, val_main_v19_apply, route_apply, val_main_v15_apply, val_main_v18_apply, val_main_v17_apply]
  rfl

/-- The weights of a token whose route numbers an expert are that expert's. -/
theorem weights_in (n : Fin 512) (k : Fin 256) (o : Fin 512) (r : Fin 128) (h : e (ix2 n (0 : Fin 1)) = BitVec.ofNat 32 r.val) :
    val_main_v25 (F := Ideal) e W (ix3 n k o) = W (ix3 r k o) := by
  have hi : idx_main_v23 (ix3 n k o) = ix1 n := funext fun a => by match a with | ⟨0, _⟩ => rfl
  rw [val_main_v25_apply, val_main_v23_apply, hi, keep_apply, h, ge_zero, le_last]
  exact table_apply W _ n k o r ((route_apply e n).trans h)

/-- The weights of any other token are zero. -/
theorem weights_out (n : Fin 512) (k : Fin 256) (o : Fin 512) (h : ∀ r : Fin 128, e (ix2 n (0 : Fin 1)) ≠ BitVec.ofNat 32 r.val) :
    val_main_v25 (F := Ideal) e W (ix3 n k o) = (0 : EReal) := by
  have hi : idx_main_v23 (ix3 n k o) = ix1 n := funext fun a => by match a with | ⟨0, _⟩ => rfl
  have hz : IntOp.andi (IntOp.cmpi .sge (e (ix2 n (0 : Fin 1))) 0#32) (IntOp.cmpi .sle (e (ix2 n (0 : Fin 1))) 127#32) = 0#1 :=
    eq_zero_of_ne_one fun hb => by obtain ⟨r, hr⟩ := exists_of_bounds _ hb; exact h r hr
  rw [val_main_v25_apply, val_main_v23_apply, hi, keep_apply, hz, val_main_v24_apply]
  exact Ideal.ofBits_zero_f32

/-- The probability of a token whose route numbers an expert is the softmax there. -/
theorem prob_in (n : Fin 512) (r : Fin 128) (h : e (ix2 n (0 : Fin 1)) = BitVec.ofNat 32 r.val) :
    val_main_v12 (F := Ideal) x g e (ix2 n (0 : Fin 1)) = val_main_v9 (F := Ideal) x g (ix2 n r) := by
  have h4 : val_main_call0_v4 (F := Ideal) e (ix2 n (0 : Fin 1)) = BitVec.ofNat 32 r.val := by
    rw [val_main_call0_v4_apply, val_main_call0_v1_apply, val_main_call0_v0_apply, val_main_call0_c_apply, h, not_lt_zero]
    rfl
  have h5 : val_main_call0_v5 (F := Ideal) e (ix3 n (0 : Fin 1) (0 : Fin 1)) = BitVec.ofNat 32 r.val := by
    rw [val_main_call0_v5_apply, col_ext (idx_main_call0_v5 _) n ?_, h4]
    show ((n.val * 1 + 0) * 1 + 0) / 1 = n.val
    omega
  have h12 : val_main_call0_v12 (F := Ideal) e (ix2 n (0 : Fin 1)) = 1#1 := by
    unfold val_main_call0_v12
    refine (and_unit _ _ rfl n).trans ?_
    rw [val_main_call0_v11_apply, val_main_call0_v7_apply, val_main_call0_v10_apply, h5, val_main_call0_v6_apply, val_main_call0_c_2_apply,
      val_main_call0_v9_apply, val_main_call0_v8_apply, val_main_call0_c_1_apply, ge_zero, le_last]
    rfl
  rw [val_main_v12_apply, h12]
  exact take_apply (val_main_v9 (F := Ideal) x g) _ n r h5

/-- A token whose route numbers an expert. -/
theorem routed_in (n o : Fin 512) (r : Fin 128) (h : e (ix2 n (0 : Fin 1)) = BitVec.ofNat 32 r.val) :
    val_main_v29 (F := Ideal) x g e W (ix2 n o)
      = (val_main_v9 (F := Ideal) x g (ix2 n r) : EReal) * ∑ k : Fin 256, (x (ix2 n k) : EReal) * W (ix3 r k o) := by
  rw [val_main_v29_apply, val_main_v28_apply, val_main_v26_apply, val_main_v13_apply, val_main_v27_apply,
    col_ext (idx_main_v13 _) n (Nat.div_one _), prob_in x g e n r h]
  refine congrArg ((val_main_v9 (F := Ideal) x g (ix2 n r) : EReal) * ·) (Finset.sum_congr rfl fun k _ => ?_)
  have hl : lidx_main_v27 (ix2 n o) k = ix2 n k := funext fun a => by match a with | ⟨0, _⟩ => rfl | ⟨1, _⟩ => rfl
  have hr : ridx_main_v27 (ix2 n o) k = ix3 n k o := funext fun a => by match a with | ⟨0, _⟩ => rfl | ⟨1, _⟩ => rfl | ⟨2, _⟩ => rfl
  rw [hl, hr, weights_in e W n k o r h]

/-- Any other token. -/
theorem routed_out (n o : Fin 512) (h : ∀ r : Fin 128, e (ix2 n (0 : Fin 1)) ≠ BitVec.ofNat 32 r.val) :
    val_main_v29 (F := Ideal) x g e W (ix2 n o) = (0 : EReal) := by
  rw [val_main_v29_apply, val_main_v27_apply]
  refine Eq.trans (congrArg ((val_main_v28 (F := Ideal) x g e (ix2 n o) : EReal) * ·) (Finset.sum_eq_zero fun k _ => ?_)) (mul_zero _)
  have hr : ridx_main_v27 (ix2 n o) k = ix3 n k o := funext fun a => by match a with | ⟨0, _⟩ => rfl | ⟨1, _⟩ => rfl | ⟨2, _⟩ => rfl
  rw [hr]
  exact (congrArg ((x (lidx_main_v27 (ix2 n o) k) : EReal) * ·) (weights_out e W n k o h)).trans (mul_zero _)

/-- The shared expert's product. -/
theorem shared_apply (n o : Fin 512) :
    val_main_v10 (F := Ideal) x H (ix2 n o) = ∑ k : Fin 256, (x (ix2 n k) : EReal) * H (ix2 k o) := by
  rw [val_main_v10_apply]
  refine Finset.sum_congr rfl fun k _ => ?_
  have hl : lidx_main_v10 (ix2 n o) k = ix2 n k := funext fun a => by match a with | ⟨0, _⟩ => rfl | ⟨1, _⟩ => rfl
  have hr : ridx_main_v10 (ix2 n o) k = ix2 k o := funext fun a => by match a with | ⟨0, _⟩ => rfl | ⟨1, _⟩ => rfl
  rw [hl, hr]

/-- The result is the sum of the two. -/
theorem result_apply (n o : Fin 512) :
    val_main_v30 (F := Ideal) x g e W H (ix2 n o)
      = (∑ k : Fin 256, (x (ix2 n k) : EReal) * H (ix2 k o)) + val_main_v29 (F := Ideal) x g e W (ix2 n o) := by
  rw [← shared_apply]
  rfl

end Cert.Lookup

end
-- ==== Proof.Value.Gate.lean ====
/-
# The gate

The kernel's softmax stages are the reference's, so that its gate of a token, a selected numerator over the
denominator, is the reference's softmax at the token's route.
-/
module

public import proofs.«01_k».proof.Proof.KernelIdeal.Steps
public import proofs.«01_k».proof.Proof.Gen.ReferenceIdeal.Read
public import Idealize.ShloMosaic.Lib.KernelVsHost
public import Idealize.ShloMosaic.Lib.ValueIdxCore

@[expose] public section

noncomputable section

namespace Cert.Gate

open Cert.KernelIdeal Cert.KernelIdeal.Gen
open Idealize.ShloMosaic Idealize.ShloMosaic.ValueIdx
open Cert.ReferenceIdeal.Read

variable (x : FVec Ideal S512x256 .f32) (g : FVec Ideal S256x128 .f32) (e : IVec S512x1 32)

/-- A column laid along every row's coordinates, read at an index. -/
theorem column_apply {α : Type} {k : ℕ} (v : S512x1.Idx → α) (h : S512x1.Broadcasts ⟨2, ![512, k]⟩) (i : (⟨2, ![512, k]⟩ : Shape).Idx) :
    broadcastTo ⟨2, ![512, k]⟩ v h i = v (ix2 (i 0 : Fin 512) (0 : Fin 1)) :=
  broadcastTo_apply v h i _ (fun a => by
    match a with
    | ⟨0, _⟩ => show (i 0).val = if (512 : ℕ) = 1 then 0 else (i 0).val; rw [if_neg (by decide)]
    | ⟨1, _⟩ => show 0 = if (1 : ℕ) = 1 then 0 else _; rw [if_pos rfl])

/-- A vector stood up as a column, read at an index. -/
theorem stand_apply {α : Type} (v : S512.Idx → α) (h : S512.ShapeCasts S512x1) (n : Fin 512) :
    shapeCast S512x1 v h (ix2 n (0 : Fin 1)) = v (ix1 n) :=
  shapeCast_apply v h _ _ (by
    rw [Shape.rowMajor_val_one, Shape.rowMajor_val_two]
    show n.val = n.val * 1 + 0
    omega)

/-- A row's maximum as the kernel takes it is the host's. -/
theorem rowMax_eq (y : FVec Ideal S512x128 .f32) :
    multiReduction .maximumf [1] S512 y 0xFF800000#32 reduces_S512x128_S512 (.inl rfl) rfl
      = Host.reduce FloatOps.maximumf y (constant Cert.ReferenceIdeal.S_ .f32 0xFF800000#32) Cert.ReferenceIdeal.Gen.reducesTo_S512x128_S512_d1
        Cert.ReferenceIdeal.Gen.h_S_ :=
  (hostReduce_maximumf_eq_multiReduction y 0xFF800000#32 _ _ _ _ _).symm

/-- The kernel's exponentials are the reference's. -/
theorem exps_eq : (k0_pay3 (F := Ideal) x g : FVec Ideal S512x128 .f32) = val_main_v5 (F := Ideal) x g := by
  unfold k0_pay3 k0_pay1
  simp only [shapeCast_self]
  have h0 : matmul dot_S512x256_S256x128_S512x128_1_0_0_1_n_n none x g (constant S512x128 .f32 0x00000000#32) = val_main_v0 (F := Ideal) x g :=
    matmul_zero_eq_dotGeneral dot_S512x256_S256x128_S512x128_1_0_0_1_n_n none x g
  rw [h0]
  have h1 : (multiReduction .maximumf [1] S512 (val_main_v0 (F := Ideal) x g : FVec Ideal S512x128 .f32) 0xFF800000#32 reduces_S512x128_S512 (.inl rfl) rfl : FVec Ideal S512 .f32)
      = val_main_v1 (F := Ideal) x g := by
    unfold val_main_v1 val_main_cst
    exact rowMax_eq _
  rw [h1]
  funext i
  rw [val_main_v5_apply, val_main_v4_apply, val_main_v3_apply, val_main_v2_apply]
  have h2 : broadcastTo S512x128 (shapeCast S512x1 (val_main_v1 (F := Ideal) x g) shapeCasts_S512_S512x1) broadcasts_S512x1_S512x128 i
      = val_main_v1 (F := Ideal) x g (idx_main_v2 (idx_main_v3 i)) := by
    refine (column_apply (k := 128) _ _ i).trans ((stand_apply _ _ (i 0)).trans ?_)
    exact congrArg _ (funext fun a => by match a with | ⟨0, _⟩ => rfl)
  rw [← h2]
  rfl

/-- The kernel's denominators are the reference's. -/
theorem denom_apply (n : Fin 512) : k0_pay4 (F := Ideal) x g (ix2 n (0 : Fin 1)) = val_main_v6 (F := Ideal) x g (ix1 n) := by
  unfold k0_pay4
  rw [stand_apply, exps_eq]
  exact congrFun (multiReduction_add_eq_hostReduceAdd (val_main_v5 (F := Ideal) x g) _ _ _ _ (val_main_cst_0 (F := Ideal)) _ Cert.ReferenceIdeal.Gen.h_S_
    Ideal.ofBits_zero_f32) (ix1 n)

/-- What the route of a token selects of a row: its entry there, and zero elsewhere. -/
theorem selected_apply (v : FVec Ideal S512x128 .f32) (n : Fin 512) (k : Fin 128) :
    select (k0_pay5 (F := Ideal) e) v (k0_pay6 (F := Ideal)) (ix2 n k)
      = if e (ix2 n (0 : Fin 1)) = BitVec.ofNat 32 k.val then v (ix2 n k) else (0 : EReal) := by
  rw [select_apply]
  have hm : k0_pay5 (F := Ideal) e (ix2 n k) = IntOp.cmpi .eq (e (ix2 n (0 : Fin 1))) (BitVec.ofNat 32 k.val) := by
    unfold k0_pay5 k0_pay2
    rw [shapeCast_self]
    show IntOp.cmpi .eq (broadcastTo S512x128 e broadcasts_S512x1_S512x128 _) (iota .tc S512x128 32 [1] iota_S512x128_d1_w32 _) = _
    rw [column_apply, iota_single_apply]
  rw [hm]
  by_cases h : e (ix2 n (0 : Fin 1)) = BitVec.ofNat 32 k.val
  · rw [if_pos h, h]
    have : IntOp.cmpi .eq (BitVec.ofNat 32 k.val) (BitVec.ofNat 32 k.val) = 1#1 := by simp [IntOp.cmpi]
    rw [this]; rfl
  · rw [if_neg h]
    have : IntOp.cmpi .eq (e (ix2 n (0 : Fin 1))) (BitVec.ofNat 32 k.val) = 0#1 := by
      show BitVec.ofBool (e (ix2 n (0 : Fin 1)) == BitVec.ofNat 32 k.val) = 0#1
      rw [beq_eq_false_iff_ne.mpr h]; rfl
    rw [this]
    exact Ideal.ofBits_zero_f32

/-- The gate of a token: the numerator that the route selects over the denominator. -/
def gate (n : Fin 512) : EReal :=
  Ideal.div (∑ k : Fin 128, if e (ix2 n (0 : Fin 1)) = BitVec.ofNat 32 k.val then val_main_v5 (F := Ideal) x g (ix2 n k) else 0)
    (val_main_v6 (F := Ideal) x g (ix1 n))

/-- What the kernel computes for it. -/
theorem gate_apply (n : Fin 512) :
    k0_pay7 (F := Ideal) (k0_pay3 (F := Ideal) x g) (k0_pay4 (F := Ideal) x g) (k0_pay5 (F := Ideal) e) (k0_pay6 (F := Ideal)) (ix2 n (0 : Fin 1)) = gate x g e n := by
  unfold k0_pay7 gate
  rw [divf_apply, denom_apply, stand_apply, exps_eq]
  refine congrArg (Ideal.div · _) ((Ideal.multiReduction_add_single _ _ _ _ _ _).trans (Finset.sum_congr rfl fun k _ => ?_))
  have hl : (reduces_S512x128_S512 : S512x128.Reduces [1] S512).lift (ix1 n) k = ix2 n (k : Fin 128) :=
    funext fun a => Fin.ext (by match a with | ⟨0, _⟩ => rfl | ⟨1, _⟩ => rfl)
  exact (congrArg _ hl).trans (selected_apply e _ n k)

/-- At a route inside the table the gate is the reference's softmax there. -/
theorem gate_eq (n : Fin 512) (r : Fin 128) (h : e (ix2 n (0 : Fin 1)) = BitVec.ofNat 32 r.val) :
    gate x g e n = val_main_v9 (F := Ideal) x g (ix2 n r) := by
  unfold gate
  rw [val_main_v9_apply, val_main_v8_apply, val_main_v7_apply, Ideal.hostDivf_def]
  have hd : idx_main_v7 (idx_main_v8 (ix2 n r)) = ix1 n := funext fun a => by match a with | ⟨0, _⟩ => rfl
  rw [hd]
  congr 1
  rw [Finset.sum_eq_single r]
  · rw [if_pos h]
  · intro k _ hk
    rw [if_neg]
    rw [h]
    intro hh
    apply hk
    have := congrArg BitVec.toNat hh
    rw [BitVec.toNat_ofNat, BitVec.toNat_ofNat] at this
    have := k.isLt; have := r.isLt
    apply Fin.ext; omega
  · intro hn; exact absurd (Finset.mem_univ _) hn

end Cert.Gate

end
-- ==== Proof.Value.Expert.lean ====
/-
# A device's contribution, at an element

Each of a device's four experts adds, to the rows routed to it and to no other, the product of the token with its
weights; the sum is scaled by the token's gate.
-/
module

public import proofs.«01_k».proof.Proof.Value.Gate

@[expose] public section

noncomputable section

namespace Cert.Gate

open Cert.KernelIdeal Cert.KernelIdeal.Gen
open Idealize.ShloMosaic Idealize.ShloMosaic.ValueIdx
open Cert.ReferenceIdeal.Read

variable (x : FVec Ideal S512x256 .f32) (g : FVec Ideal S256x128 .f32) (e : IVec S512x1 32)

/-- The product of a token with one expert's weights. -/
def prod (w : FVec Ideal S1x256x512 .f32) (n o : Fin 512) : EReal := ∑ k : Fin 256, (x (ix2 n k) : EReal) * w (ix3 (0 : Fin 1) k o)

/-- The mask of the tokens routed to the expert numbered `t`, laid along the rows. -/
def mask (t : BitVec 32) : FVec Ideal S512x256 .f32 :=
  broadcastTo S512x256 (sitofp .f32 (extui 32 (cmpi .eq e (broadcast S512x1 t)) natLt_1_32)) broadcasts_S512x1_S512x256

theorem mask_apply (t : BitVec 32) (n : Fin 512) (k : Fin 256) :
    (mask e t (ix2 n k) : EReal) = if e (ix2 n (0 : Fin 1)) = t then 1 else 0 := by
  unfold mask
  refine (column_apply (k := 256) _ _ (ix2 n k)).trans ?_
  show (((((BitVec.ofBool (e (ix2 n (0 : Fin 1)) == t)).setWidth 32).toInt : ℤ) : ℝ) : EReal) = _
  by_cases h : e (ix2 n (0 : Fin 1)) = t
  · rw [if_pos h, beq_iff_eq.mpr h]
    have : ((BitVec.ofBool true).setWidth 32).toInt = 1 := by decide
    rw [this]; norm_num
  · rw [if_neg h, beq_eq_false_iff_ne.mpr h]
    have : ((BitVec.ofBool false).setWidth 32).toInt = 0 := by decide
    rw [this]; norm_num

/-- One expert's masked product. -/
def part (t : BitVec 32) (w : FVec Ideal S1x256x512 .f32) : FVec Ideal S512x512 .f32 :=
  matmul dot_S512x256_S256x512_S512x512_1_0_0_1_n_n none (mulf x (mask e t)) (shapeCast S256x512 w shapeCasts_S1x256x512_S256x512)
    (constant S512x512 .f32 0x00000000#32)

/-- At an element it is the product where the token is routed to the expert, and zero elsewhere. -/
theorem part_apply (t : BitVec 32) (w : FVec Ideal S1x256x512 .f32) (n o : Fin 512) :
    (part x e t w (ix2 n o) : EReal) = if e (ix2 n (0 : Fin 1)) = t then prod x w n o else 0 := by
  unfold part
  rw [matmul_zero_eq_dotGeneral]
  refine (val_main_v10_apply _ _ _).trans ?_
  have hl : ∀ k, lidx_main_v10 (ix2 n o) k = ix2 n k := fun k => funext fun a => by match a with | ⟨0, _⟩ => rfl | ⟨1, _⟩ => rfl
  have hr : ∀ k, ridx_main_v10 (ix2 n o) k = ix2 k o := fun k => funext fun a => by match a with | ⟨0, _⟩ => rfl | ⟨1, _⟩ => rfl
  have hw : ∀ k : Fin 256, shapeCast S256x512 w shapeCasts_S1x256x512_S256x512 (ix2 k o) = w (ix3 (0 : Fin 1) k o) := fun k =>
    shapeCast_apply w _ _ _ (by
      rw [Shape.rowMajor_val_three, Shape.rowMajor_val_two]
      show (0 * 256 + k.val) * 512 + o.val = k.val * 512 + o.val
      omega)
  have hx : ∀ k : Fin 256, (mulf x (mask e t) (ix2 n k) : EReal) = if e (ix2 n (0 : Fin 1)) = t then x (ix2 n k) else 0 := fun k => by
    rw [mulf_apply]
    refine (congrArg ((x (ix2 n k) : EReal) * ·) (mask_apply e t n k)).trans ?_
    by_cases h : e (ix2 n (0 : Fin 1)) = t
    · rw [if_pos h, if_pos h, mul_one]
    · rw [if_neg h, if_neg h, mul_zero]
  unfold prod
  by_cases h : e (ix2 n (0 : Fin 1)) = t
  · rw [if_pos h]
    refine Finset.sum_congr rfl fun k _ => ?_
    rw [hl, hr]
    exact congrArg₂ (fun a b : EReal => a * b) ((hx k).trans (if_pos h)) (hw k)
  · rw [if_neg h]
    refine Finset.sum_eq_zero fun k _ => ?_
    rw [hl, hr]
    exact (congrArg₂ (fun a b : EReal => a * b) ((hx k).trans (if_neg h)) (hw k)).trans (zero_mul _)

/-- The device's number as the kernel computes it. -/
theorem word_eq (c : Dev nD) : Scalar.remsi (Scalar.divsi (Dev.word c) 1#32) 32#32 = BitVec.ofNat 32 c.val := by
  revert c; decide

/-- The number of device `c`'s expert `k`. -/
def expertWord (c : Dev nD) (k : Fin 4) : BitVec 32 := BitVec.ofNat 32 (4 * c.val + k.val)

theorem expertWord_eq (c : Dev nD) (k : Fin 4) :
    Scalar.addi (Scalar.muli (BitVec.ofNat 32 c.val) 4#32) (BitVec.ofNat 32 k.val) = expertWord c k := by
  revert c k; decide

/-- A device's contribution is the sum of its four experts' masked products, scaled by the gate laid along the rows. -/
theorem contrib_eq (c : Dev nD) (w0 w1 w2 w3 : FVec Ideal S1x256x512 .f32) :
    Ring.contrib (F := Ideal) c x e g w0 w1 w2 w3
      = mulf (addf (addf (addf (addf (broadcast S512x512 (Scalar.ofBits .f32 0x00000000#32)) (part x e (expertWord c 0) w0))
          (part x e (expertWord c 1) w1)) (part x e (expertWord c 2) w2)) (part x e (expertWord c 3) w3))
        (broadcastTo S512x512 (k0_pay7 (F := Ideal) (k0_pay3 (F := Ideal) x g) (k0_pay4 (F := Ideal) x g) (k0_pay5 (F := Ideal) e) (k0_pay6 (F := Ideal)))
          broadcasts_S512x1_S512x512) := by
  unfold Ring.contrib k0_pay8 k0_pay9 k0_pay10 k0_pay1 k0_pay2
  simp only [shapeCast_self, word_eq]
  rw [← expertWord_eq c 0, ← expertWord_eq c 1, ← expertWord_eq c 2, ← expertWord_eq c 3]
  rfl

/-- At an element: the sum over the four experts of the products routed to them, times the token's gate. -/
theorem contrib_apply (c : Dev nD) (w : Fin 4 → FVec Ideal S1x256x512 .f32) (n o : Fin 512) :
    (Ring.contrib (F := Ideal) c x e g (w 0) (w 1) (w 2) (w 3) (ix2 n o) : EReal)
      = (∑ k : Fin 4, if e (ix2 n (0 : Fin 1)) = expertWord c k then prod x (w k) n o else 0) * gate x g e n := by
  rw [contrib_eq, Fin.sum_univ_four]
  refine congrArg₂ (fun a b : EReal => a * b) ?_ ((column_apply (k := 512) _ _ (ix2 n o)).trans (gate_apply x g e n))
  rw [← part_apply, ← part_apply, ← part_apply, ← part_apply]
  show (((Ideal.ofBits .f32 0x00000000#32 + (part x e (expertWord c 0) (w 0) (ix2 n o) : EReal)) + _) + _) + _ = _
  rw [Ideal.ofBits_zero_f32, zero_add]

end Cert.Gate

end
-- ==== Proof.Value.Total.lean ====
/-
# The sum over the devices

Of the thirty-two devices' four experts each, at most one is a token's: the contributions of all the devices add up to
what the reference looks up.
-/
module

public import proofs.«01_k».proof.Proof.Value.Reference
public import proofs.«01_k».proof.Proof.Value.Expert

@[expose] public section

noncomputable section

namespace Cert.Total

open Cert.ReferenceIdeal
open Idealize.ShloMosaic Idealize.ShloMosaic.ValueIdx
open Cert.ReferenceIdeal.Read Cert.Gate

variable (x : FVec Ideal S512x256 .f32) (g : FVec Ideal S256x128 .f32) (e : IVec S512x1 32) (W : FVec Ideal S128x256x512 .f32)

/-- The number of device `d`'s expert `k` among all the experts. -/
def expertNo (d : Fin 32) (k : Fin 4) : Fin 128 := ⟨4 * d.val + k.val, by omega⟩

/-- Different experts have different words. -/
theorem expertWord_inj (d : Fin 32) (k : Fin 4) (r : Fin 128) : BitVec.ofNat 32 r.val = expertWord d k ↔ r = expertNo d k := by
  constructor
  · intro h
    have h' := congrArg BitVec.toNat h
    unfold expertWord at h'
    rw [BitVec.toNat_ofNat, BitVec.toNat_ofNat] at h'
    have hd : d.val < 32 := d.isLt
    apply Fin.ext
    show r.val = 4 * d.val + k.val
    omega
  · rintro rfl; rfl

/-- A sum over devices and their experts that is zero but for one expert is that expert's term. -/
theorem single (r : Fin 128) (f : Fin 32 → Fin 4 → EReal) :
    (∑ d : Fin 32, ∑ k : Fin 4, if r = expertNo d k then f d k else 0)
      = f ⟨r.val / 4, by omega⟩ ⟨r.val % 4, by omega⟩ := by
  have hne : ∀ d k, r = expertNo d k → d = ⟨r.val / 4, by omega⟩ ∧ k = ⟨r.val % 4, by omega⟩ := by
    intro d k h
    have h' : r.val = 4 * d.val + k.val := congrArg Fin.val h
    exact ⟨Fin.ext (by show d.val = r.val / 4; omega), Fin.ext (by show k.val = r.val % 4; omega)⟩
  rw [Finset.sum_eq_single (⟨r.val / 4, by omega⟩ : Fin 32), Finset.sum_eq_single (⟨r.val % 4, by omega⟩ : Fin 4)]
  · rw [if_pos (Fin.ext (by show r.val = 4 * (r.val / 4) + r.val % 4; omega))]
  · intro k _ hk
    exact if_neg fun h => hk (hne _ _ h).2
  · intro h; exact absurd (Finset.mem_univ _) h
  · intro d _ hd
    exact Finset.sum_eq_zero fun k _ => if_neg fun h => hd (hne _ _ h).1
  · intro h; exact absurd (Finset.mem_univ _) h

/-- The contributions of all the devices add up to the reference's routed part. -/
theorem total (w : Fin 32 → Fin 4 → FVec Ideal Cert.KernelIdeal.S1x256x512 .f32)
    (hw : ∀ d k j o, w d k (ix3 (0 : Fin 1) j o) = W (ix3 (expertNo d k) j o)) (n o : Fin 512) :
    (∑ d : Fin 32, (∑ k : Fin 4, if e (ix2 n (0 : Fin 1)) = expertWord d k then prod x (w d k) n o else 0) * gate x g e n)
      = (val_main_v29 (F := Ideal) x g e W (ix2 n o) : EReal) := by
  by_cases h : ∃ r : Fin 128, e (ix2 n (0 : Fin 1)) = BitVec.ofNat 32 r.val
  · obtain ⟨r, hr⟩ := h
    refine Eq.trans ?_ (Lookup.routed_in x g e W n o r hr).symm
    have hp : ∀ d k, r = expertNo d k → prod x (w d k) n o = ∑ j : Fin 256, (x (ix2 n j) : EReal) * W (ix3 r j o) := by
      rintro d k rfl
      exact Finset.sum_congr rfl fun j _ => congrArg ((x (ix2 n j) : EReal) * ·) (hw d k j o)
    have hs : ∀ d : Fin 32, (∑ k : Fin 4, if e (ix2 n (0 : Fin 1)) = expertWord d k then prod x (w d k) n o else 0) * gate x g e n
        = ∑ k : Fin 4, if r = expertNo d k then (∑ j : Fin 256, (x (ix2 n j) : EReal) * W (ix3 r j o)) * gate x g e n else 0 := by
      intro d
      by_cases hd : ∃ k, r = expertNo d k
      · obtain ⟨k, hk⟩ := hd
        have hu : ∀ k' : Fin 4, k' ≠ k → r ≠ expertNo d k' := by
          intro k' hne h'
          have h1 : r.val = 4 * d.val + k.val := congrArg Fin.val hk
          have h2 : r.val = 4 * d.val + k'.val := congrArg Fin.val h'
          exact hne (Fin.ext (by omega))
        rw [Finset.sum_eq_single k, Finset.sum_eq_single k, hr, if_pos ((expertWord_inj d k r).mpr hk), if_pos hk, hp d k hk]
        · intro k' _ hne; exact if_neg (hu k' hne)
        · intro h; exact absurd (Finset.mem_univ _) h
        · intro k' _ hne; exact if_neg fun h' => hu k' hne ((expertWord_inj d k' r).mp (hr.symm.trans h'))
        · intro h; exact absurd (Finset.mem_univ _) h
      · rw [Finset.sum_eq_zero, Finset.sum_eq_zero, zero_mul]
        · intro k _; exact if_neg fun h' => hd ⟨k, h'⟩
        · intro k _; exact if_neg fun h' => hd ⟨k, (expertWord_inj d k r).mp (hr.symm.trans h')⟩
    rw [Finset.sum_congr rfl fun d _ => hs d, single r fun _ _ => _, mul_comm, gate_eq x g e n r hr]
  · refine Eq.trans (Finset.sum_eq_zero fun d _ => ?_) (Lookup.routed_out x g e W n o fun r hr => h ⟨r, hr⟩).symm
    rw [Finset.sum_eq_zero, zero_mul]
    intro k _
    exact if_neg fun h' => h ⟨expertNo d k, h'⟩

end Cert.Total

end
-- ==== Proof.KernelIdeal.Output.lean ====
/-
# A device's result at an element

The shared expert's product with the device's own sixteen tokens plus the contributions of all the devices to them.
-/
module

public import proofs.«01_k».proof.Proof.KernelIdeal.Run
public import proofs.«01_k».proof.Proof.KernelIdeal.Reduced
public import proofs.«01_k».proof.Proof.Value.Total
public import Idealize.ShloMosaic.Lib.MatmulPlain

@[expose] public section

noncomputable section

namespace Cert.KernelIdeal.Ring

open Cert.KernelIdeal Cert.KernelIdeal.Gen
open Idealize.ShloMosaic Idealize.ShloMosaic.TcCoe Idealize.ShloMosaic.ValueIdx Idealize.SL.Sem

/-! ## Whole blocks -/

section
variable {F : FTy → Type} [FloatOps F] (m : (ℓ : Loc nD τ sig) → Buf (Elt F) ℓ) (c : Dev nD)

/-- The staged operands are the argument arrays. -/
theorem xOf_eq : xOf m c = m ((c : Thread nD τ).loc main_arg0) :=
  Memref.read_access_unit_zero (Elt F) main_arg0 (funext fun a => by fin_cases a <;> decide) (fun a => by fin_cases a <;> decide) _
theorem gOf_eq : gOf m c = m ((c : Thread nD τ).loc main_arg1) :=
  Memref.read_access_unit_zero (Elt F) main_arg1 (funext fun a => by fin_cases a <;> decide) (fun a => by fin_cases a <;> decide) _
theorem eOf_eq : eOf m c = m ((c : Thread nD τ).loc main_arg2) :=
  Memref.read_access_unit_zero (Elt F) main_arg2 (funext fun a => by fin_cases a <;> decide) (fun a => by fin_cases a <;> decide) _
theorem wOf_eq : wOf m c = m ((c : Thread nD τ).loc main_arg3) :=
  Memref.read_access_unit_zero (Elt F) main_arg3 (funext fun a => by fin_cases a <;> decide) (fun a => by fin_cases a <;> decide) _
theorem hOf_eq : hOf m c = m ((c : Thread nD τ).loc main_arg4) :=
  Memref.read_access_unit_zero (Elt F) main_arg4 (funext fun a => by fin_cases a <;> decide) (fun a => by fin_cases a <;> decide) _

/-- The result array at the end is what the body left. -/
theorem finalA_out : finalA m c (5 : Fin 6) = outAt m c := by
  unfold finalA
  rw [show cfg0.N = (t₀ : Fin cfg0.N).val + 1 from rfl, (dats m 0 c).arrAt_succ (5 : Fin 6) t₀,
    if_pos (show (cfg0.win (5 : Fin 6)).flush t₀ = true from by decide)]
  have hz : (fun a => (win0_5.index t₀) a * main_v1.ty.shape.size a) = fun _ => 0 := funext fun a => by fin_cases a <;> decide
  exact Memref.write_access_unit_zero_univ (Elt F) main_v1 hz (fun a => by fin_cases a <;> decide) _ _

/-- A device's expert as loaded, at an element. -/
theorem expOf_apply (k : Fin 4) (j : Fin 256) (o : Fin 512) :
    expOf m c k (ix3 (0 : Fin 1) j o) = wOf m c (ix3 k j o) := by
  unfold expOf
  rw [View.readAt_apply]
  refine congrArg (wOf m c) (funext fun a => Fin.ext ?_)
  match a with
  | ⟨0, _⟩ => show k.val + 1 * 0 = k.val; omega
  | ⟨1, _⟩ => show 0 + 1 * j.val = j.val; omega
  | ⟨2, _⟩ => show 0 + 1 * o.val = o.val; omega

/-- Row `i` of device `c`'s sixteen. -/
def rowNo (i : Fin 16) : Fin 512 := ⟨16 * c.val + i.val, by have : c.val < 32 := c.isLt; omega⟩

/-- The device's sixteen tokens as loaded, at an element. -/
theorem ownTokens_apply (f : (cc0_stg0_0 : Ref sig .tc).ty.Contents (Elt F)) (i : Fin 16) (k : Fin 256) :
    xM.view.readAt (Elt F) (Rect.unit (s := S512x256) (k0_off3 c) S16x256.size (k0_off3_inb c)).toLoadRect f (ix2 i k)
      = f (ix2 (rowNo c i) k) := by
  rw [View.readAt_apply]
  refine congrArg f (funext fun a => Fin.ext ?_)
  have h0 : k0_off3 c = ![16 * c.val, 0] := k0_off3_eq c
  match a with
  | ⟨0, _⟩ => show k0_off3 c 0 + 1 * i.val = 16 * c.val + i.val; rw [h0]; show 16 * c.val + 1 * i.val = _; omega
  | ⟨1, _⟩ => show k0_off3 c 1 + 1 * k.val = k.val; rw [h0]; show 0 + 1 * k.val = _; omega

/-- Its sixteen rows of the accumulator as loaded, at an element. -/
theorem ownRows_apply (f : (cc0_scratch0 : Ref sig .tc).ty.Contents (Elt F)) (i : Fin 16) (o : Fin 512) :
    aM.view.readAt (Elt F) (rowsR (k0_off4 c) (k0_off4_inb c)).toLoadRect f (ix2 i o) = f (ix2 (rowNo c i) o) := by
  rw [View.readAt_apply]
  refine congrArg f (funext fun a => Fin.ext ?_)
  have h0 : k0_off4 c = ![16 * c.val, 0] := k0_off4_eq c
  match a with
  | ⟨0, _⟩ => show k0_off4 c 0 + 1 * i.val = 16 * c.val + i.val; rw [h0]; show 16 * c.val + 1 * i.val = _; omega
  | ⟨1, _⟩ => show k0_off4 c 1 + 1 * o.val = o.val; rw [h0]; show 0 + 1 * o.val = _; omega
end

/-! ## The result -/

/-- The result rows at an element. -/
theorem result_apply (x : FVec Ideal S16x256 .f32) (w : FVec Ideal S256x512 .f32) (a : FVec Ideal S16x512 .f32) (i : Fin 16) (o : Fin 512) :
    (result (F := Ideal) x w a (ix2 i o) : EReal) = (∑ k : Fin 256, (x (ix2 i k) : EReal) * w (ix2 k o)) + a (ix2 i o) := by
  unfold result k0_pay45 k0_pay46 k0_pay47
  simp only [shapeCast_self]
  refine congrArg (fun b : EReal => b + a (ix2 i o)) ((Ideal.matmul_plain_apply none x w _ i o).trans ?_)
  refine (congrArg (fun b : EReal => b + ∑ k : Fin 256, (x (ix2 i k) : EReal) * w (ix2 k o)) Ideal.ofBits_zero_f32).trans (zero_add _)

variable (m : (ℓ : Loc nD τ sig) → Buf (Elt Ideal) ℓ)

/-- A device's contribution at an element, from the argument arrays of the device. -/
theorem acc0_apply (c : Dev nD) (n o : Fin 512) :
    accE m 0 c (ix2 n o)
      = (∑ k : Fin 4, if (eOf m c) (ix2 n (0 : Fin 1)) = Gate.expertWord c k then Gate.prod (xOf m c) (expOf m c k) n o else 0)
        * Gate.gate (xOf m c) (gOf m c) (eOf m c) n :=
  Gate.contrib_apply (xOf m c) (gOf m c) (eOf m c) c (expOf m c) n o

/-- The shared expert's product with a token, at an element. -/
def shared (x : FVec Ideal S512x256 .f32) (h : FVec Ideal S256x512 .f32) (n o : Fin 512) : EReal :=
  ∑ k : Fin 256, (x (ix2 n k) : EReal) * h (ix2 k o)

/-- A device's result at an element. -/
theorem outAt_apply (c : Dev nD) (i : Fin 16) (o : Fin 512) :
    (outAt m c (ix2 i o) : EReal)
      = shared (xOf m c) (hOf m c) (rowNo c i) o + ∑ d : Fin 32, accE m 0 d (ix2 (rowNo c i) o) := by
  unfold outAt
  refine (result_apply _ _ _ i o).trans (congrArg₂ (fun a b : EReal => a + b) (Finset.sum_congr rfl fun k _ => ?_) ?_)
  · exact congrArg₂ (fun a b : EReal => a * b) (ownTokens_apply c (xOf m c) i k) rfl
  · refine (ownRows_apply c (accAt m 31 c) i o).trans (reduced m c _ ?_)
    show (16 * c.val + i.val) / 16 = c.val
    omega

/-- When every device's arguments are the reference's, the experts cut among the devices, a device's result is its block
    of the reference's. -/
theorem outAt_eq (x : FVec Ideal S512x256 .f32) (g : FVec Ideal S256x128 .f32) (e : IVec S512x1 32)
    (W : FVec Ideal Cert.ReferenceIdeal.S128x256x512 .f32) (H : FVec Ideal S256x512 .f32)
    (hx : ∀ d, xOf m d = x) (hg : ∀ d, gOf m d = g) (he : ∀ d, eOf m d = e)
    (hW : ∀ d, wOf m d = Layout.block ⟨3, ![4, 256, 512]⟩ ⟨3, ![128, 256, 512]⟩ 0 32 d W) (hH : ∀ d, hOf m d = H) (c : Dev nD) :
    outAt m c = Layout.block ⟨2, ![16, 512]⟩ ⟨2, ![512, 512]⟩ 0 32 c (Cert.ReferenceIdeal.Read.val_main_v30 (F := Ideal) x g e W H) := by
  have hexp : ∀ d k j o, expOf m d k (ix3 (0 : Fin 1) j o) = W (ix3 (Total.expertNo d k) j o) := by
    intro d k j o
    rw [expOf_apply, hW, Layout.block_apply]
    refine congrArg W (funext fun a => Fin.ext ?_)
    match a with
    | ⟨0, _⟩ => show d.val * 4 + k.val = 4 * d.val + k.val; omega
    | ⟨1, _⟩ => rfl
    | ⟨2, _⟩ => rfl
  have ht : Layout.Tiles ⟨2, ![16, 512]⟩ ⟨2, ![512, 512]⟩ 0 32 := by decide
  have key : ∀ (i : Fin 16) (o : Fin 512),
      (outAt m c (ix2 i o) : EReal) = Cert.ReferenceIdeal.Read.val_main_v30 (F := Ideal) x g e W H (ht.idx c (ix2 i o)) := by
    intro i o
    have hidx : ix2 (rowNo c i) o = ht.idx c (ix2 i o) := funext fun a => Fin.ext (by
      match a with
      | ⟨0, _⟩ => show 16 * c.val + i.val = c.val * 16 + i.val; omega
      | ⟨1, _⟩ => rfl)
    refine (outAt_apply m c i o).trans (Eq.trans ?_ (congrArg (Cert.ReferenceIdeal.Read.val_main_v30 (F := Ideal) x g e W H) hidx))
    refine Eq.trans ?_ (Lookup.result_apply x g e W H (rowNo c i) o).symm
    rw [hx, hH, ← Total.total x g e W (fun d => expOf m d) hexp]
    refine congrArg (_ + ·) (Finset.sum_congr rfl fun d _ => ?_)
    rw [acc0_apply, hx, hg, he]
  funext j
  have hj : j = ix2 (j 0 : Fin 16) (j 1 : Fin 512) := funext fun a => by match a with | ⟨0, _⟩ => rfl | ⟨1, _⟩ => rfl
  exact (congrArg (outAt m c) hj).trans ((key (j 0) (j 1)).trans
    (congrArg (fun i => Cert.ReferenceIdeal.Read.val_main_v30 (F := Ideal) x g e W H (ht.idx c i)) hj.symm))

end Cert.KernelIdeal.Ring

end
-- ==== Proof.lean ====
/-
# The certificate

The five claims about the kernel and its reference, each from the module that proves it. The programs' stated facts come
first, as the generated modules prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.KernelIdeal.Run
public import proofs.«01_k».proof.Proof.KernelIdeal.Output
public import Idealize.ShloMosaic.Adequacy
public import Idealize.ShloMosaic.Init

@[expose] public section

noncomputable section

namespace Cert.Proof

open Idealize.ShloMosaic Idealize.SL.Sem

/-- `Kernel` runs, ends with its arguments as they were and every semaphore at zero. -/
theorem frame_Kernel : Cert.quiescent_Kernel := fun m ρ _ =>
  (θ_run Cert.Kernel.defs _ _).mono (fun _ h => ⟨fun c => Cert.KernelIdeal.Ring.args_kept h.1 c, h.2⟩)
    (Cert.Same.run_main m ρ)

/-- `KernelIdeal` runs, ends with its arguments as they were and every semaphore at zero. -/
theorem frame_KernelIdeal : Cert.quiescent_KernelIdeal := fun m ρ _ =>
  (θ_run Cert.KernelIdeal.defs _ _).mono (fun _ h => ⟨fun c => Cert.KernelIdeal.Ring.args_kept h.1 c, h.2⟩)
    (Cert.KernelIdeal.Ring.run_main m ρ)

/-- The reference runs, ends with its arguments as they were, and has no semaphores. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device of `KernelIdeal` ends with its sixteen rows of the reference's result. -/
theorem algebraic : Cert.algebraic_KernelIdeal_ReferenceIdeal := by
  intro m g m' g' _ h
  refine ⟨_, ?_, (θ_run Cert.ReferenceIdeal.defs _ _).mono (fun r hr => hr 0) (Cert.ReferenceIdeal.Value.run (F := Ideal) m' g')⟩
  refine (θ_run Cert.KernelIdeal.defs _ _).mono (fun r hr c => ⟨?_, Cert.KernelIdeal.Ring.args_kept hr.1 c⟩)
    (Cert.KernelIdeal.Ring.run_main (F := Ideal) m g)
  refine (hr.1 c (5 : Fin 6)).trans ((Cert.KernelIdeal.Ring.finalA_out m c).trans ?_)
  refine (Cert.KernelIdeal.Ring.outAt_eq m _ _ _ _ _
    (fun d => (Cert.KernelIdeal.Ring.xOf_eq m d).trans (h d).1) (fun d => (Cert.KernelIdeal.Ring.gOf_eq m d).trans (h d).2.1)
    (fun d => (Cert.KernelIdeal.Ring.eOf_eq m d).trans (h d).2.2.1) (fun d => (Cert.KernelIdeal.Ring.wOf_eq m d).trans (h d).2.2.2.1)
    (fun d => (Cert.KernelIdeal.Ring.hOf_eq m d).trans (h d).2.2.2.2) c).trans ?_
  exact congrArg (Layout.block ⟨2, ![16, 512]⟩ ⟨2, ![512, 512]⟩ 0 32 c) (Cert.ReferenceIdeal.Read.val_main_v30_eq m' 0).symm

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
